-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def holds_ReferenceIdeal_close_to_table [hReferenceIdeal : Cert.ReferenceIdeal.Facts] [hPost_close_to_table : Cert.Post_close_to_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_close_to_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v20))) = (fun _ => 1#1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts) (hPost_close_to_table : Cert.Post_close_to_table.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
    ∧ holds_ReferenceIdeal_close_to_table (hReferenceIdeal := hReferenceIdeal) (hPost_close_to_table := hPost_close_to_table)
-- ==== Post_close_to_table.lean ====
abbrev S512 : Shape := ⟨1, ![512]⟩
abbrev S8192x512 : Shape := ⟨2, ![8192, 512]⟩
abbrev S512x512 : Shape := ⟨2, ![512, 512]⟩
abbrev S_ : Shape := ⟨0, ![]⟩
abbrev S512x1 : Shape := ⟨2, ![512, 1]⟩

class Facts : Prop where
  bcast_S_S512 : S_.BroadcastsInDim S512 (![] : Fin 0 → Fin S512.rank)
  bcast_S512_S512x1_0 : S512.BroadcastsInDim S512x1 (![0] : Fin 1 → Fin S512x1.rank)
  reducesTo_S8192x512_S_d0_1 : S8192x512.ReducesTo [0, 1] S_
  h_S_ : 0 < S_.numel
  bcast_S_S512x512 : S_.BroadcastsInDim S512x512 (![] : Fin 0 → Fin S512x512.rank)
  gather_S8192x512_S512x1_S512x512_1_0_n_n_0_1_1512_wf : GatherDims.WF S8192x512 S512x1 S512x512 [1] [0] [] [0] [] 1 ![1, 512]

variable [Facts]

def gather_S8192x512_S512x1_S512x512_1_0_n_n_0_1_1512 : GatherDims S8192x512 S512x1 S512x512 where
  offsetDims := [1]
  collapsedSliceDims := [0]
  operandBatchingDims := []
  startIndicesBatchingDims := []
  startIndexMap := [0]
  indexVectorDim := 1
  sliceSizes := ![1, 512]
  wf := gather_S8192x512_S512x1_S512x512_1_0_n_n_0_1_1512_wf
def fn {F : FTy → Type} [FloatOps F] (main_arg0 : IVec S512 32) (main_arg1 : FVec F S8192x512 .f32) (main_arg2 : FVec F S512x512 .f32) : IVec S512x512 1 :=
  let main_c : IVec S_ 32 := constantI S_ 32 0#32
  let main_v0 : IVec S512 32 := broadcastInDim S512 ![] bcast_S_S512 main_c
  let main_v1 : IVec S512 1 := cmpi .slt main_arg0 main_v0
  let main_c_0 : IVec S_ 32 := constantI S_ 32 8192#32
  let main_v2 : IVec S512 32 := broadcastInDim S512 ![] bcast_S_S512 main_c_0
  let main_v3 : IVec S512 32 := addi main_arg0 main_v2
  let main_v4 : IVec S512 32 := select main_v1 main_v3 main_arg0
  let main_v5 : IVec S512x1 32 := broadcastInDim S512x1 ![0] bcast_S512_S512x1_0 main_v4
  let main_v6 : FVec F S512x512 .f32 := (fun x i => Host.gather gather_S8192x512_S512x1_S512x512_1_0_n_n_0_1_1512 x i) main_arg1 main_v5
  let main_v7 : FVec F S512x512 .f32 := subf main_arg2 main_v6
  let main_v8 : FVec F S512x512 .f32 := Host.absf main_v7
  let main_v9 : FVec F S8192x512 .f32 := Host.absf main_arg1
  let main_cst : FVec F S_ .f32 := constant S_ .f32 0xFF800000#32
  let main_v10 : FVec F S_ .f32 := (fun x v => Host.reduce FloatOps.maximumf x v reducesTo_S8192x512_S_d0_1 h_S_) main_v9 main_cst
  let main_cst_1 : FVec F S_ .f32 := constant S_ .f32 0x3B839689#32
  let main_v11 : FVec F S_ .f32 := mulf main_v10 main_cst_1
  let main_v12 : FVec F S512x512 .f32 := broadcastInDim S512x512 ![] bcast_S_S512x512 main_v11
  let main_v13 : IVec S512x512 1 := cmpf .ole main_v8 main_v12
  main_v13
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x1 : Shape := ⟨2, ![512, 1]⟩
abbrev S512x512 : Shape := ⟨2, ![512, 512]⟩
abbrev S8x128 : Shape := ⟨2, ![8, 128]⟩
abbrev S4 : Shape := ⟨1, ![4]⟩
abbrev S_ : Shape := ⟨0, ![]⟩
abbrev S1x4096x512 : Shape := ⟨3, ![1, 4096, 512]⟩
abbrev S1 : Shape := ⟨1, ![1]⟩
abbrev S1x1x1 : Shape := ⟨3, ![1, 1, 1]⟩
abbrev S128x4096 : Shape := ⟨2, ![128, 4096]⟩
abbrev S128x1 : Shape := ⟨2, ![128, 1]⟩
abbrev S128x512 : Shape := ⟨2, ![128, 512]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S512x1, .i32⟩
  | .hbm, ⟨3, _⟩ => ⟨S512x512, .f32⟩
  | .local _ .vmem, ⟨0, _⟩ => ⟨S512x1, .i32⟩
  | .local _ .vmem, ⟨1, _⟩ => ⟨S4096x512, .f32⟩
  | .local _ .vmem, ⟨2, _⟩ => ⟨S512x512, .f32⟩
  | .local _ .vmem, ⟨3, _⟩ => ⟨S4096x512, .i8⟩
  | .local _ .vmem, ⟨4, _⟩ => ⟨S512x512, .i8⟩
  | .local _ .vmem, ⟨5, _⟩ => ⟨S512x512, .i8⟩
  | .local _ .vmem, ⟨6, _⟩ => ⟨S8x128, .f32⟩
  | .local _ .vmem, ⟨7, _⟩ => ⟨S8x128, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v39 : BitVec 32 := Scalar.muli v2 c4_i32_18
  let v40 : BitVec 32 := Scalar.addi c0_i32_19 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v41 : BitVec 32 := Scalar.muli v5 c2_i32_20
  let v42 : BitVec 32 := Scalar.addi v40 v41
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_21 : BitVec 32 := 1#32
  let v43 : BitVec 32 := Scalar.muli v9 c1_i32_21
  let v44 : BitVec 32 := Scalar.addi v42 v43
  v44.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v61 : BitVec 32 := Scalar.muli v2 c4_i32_31
  let v62 : BitVec 32 := Scalar.addi c0_i32_32 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v63 : BitVec 32 := Scalar.muli v5 c2_i32_33
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v65 : BitVec 32 := Scalar.muli v9 c1_i32_34
  let v66 : BitVec 32 := Scalar.addi v64 v65
  v66.toNat
def k0_dev4 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v87 : BitVec 32 := Scalar.muli v2 c4_i32_47
  let v88 : BitVec 32 := Scalar.addi c0_i32_48 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v89 : BitVec 32 := Scalar.muli v5 c2_i32_49
  let v90 : BitVec 32 := Scalar.addi v88 v89
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v91 : BitVec 32 := Scalar.muli v9 c1_i32_50
  let v92 : BitVec 32 := Scalar.addi v90 v91
  v92.toNat
def k0_dev5 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v113 : BitVec 32 := Scalar.muli v2 c4_i32_62
  let v114 : BitVec 32 := Scalar.addi c0_i32_63 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v115 : BitVec 32 := Scalar.muli v5 c2_i32_64
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v117 : BitVec 32 := Scalar.muli v9 c1_i32_65
  let v118 : BitVec 32 := Scalar.addi v116 v117
  v118.toNat
def k0_dev6 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v139 : BitVec 32 := Scalar.muli v2 c4_i32_76
  let v140 : BitVec 32 := Scalar.addi c0_i32_77 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v141 : BitVec 32 := Scalar.muli v5 c2_i32_78
  let v142 : BitVec 32 := Scalar.addi v140 v141
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v143 : BitVec 32 := Scalar.muli v9 c1_i32_79
  let v144 : BitVec 32 := Scalar.addi v142 v143
  v144.toNat
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S2x4096x512 : Shape := ⟨3, ![2, 4096, 512]⟩
abbrev S_ : Shape := ⟨0, ![]⟩
abbrev S2 : Shape := ⟨1, ![2]⟩
abbrev S2x1x1 : Shape := ⟨3, ![2, 1, 1]⟩
abbrev S512x1 : Shape := ⟨2, ![512, 1]⟩
abbrev S512x512 : Shape := ⟨2, ![512, 512]⟩

abbrev nBuf : Space → Nat
  | .hbm => 27
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S2x4096x512, .f32⟩
  | .hbm, ⟨3, _⟩ => ⟨S2x4096x512, .f32⟩
  | .hbm, ⟨4, _⟩ => ⟨S_, .f32⟩
  | .hbm, ⟨5, _⟩ => ⟨S2, .f32⟩
  | .hbm, ⟨6, _⟩ => ⟨S2x1x1, .f32⟩
  | .hbm, ⟨7, _⟩ => ⟨S_, .f32⟩
  | .hbm, ⟨8, _⟩ => ⟨S2x1x1, .f32⟩
  | .hbm, ⟨9, _⟩ => ⟨S2x1x1, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S2x4096x512, .i32⟩
  | .hbm, ⟨14, _⟩ => ⟨S2x4096x512, .f32⟩
  | .hbm, ⟨15, _⟩ => ⟨S2x4096x512, .f32⟩
  | .hbm, ⟨16, _⟩ => ⟨S2x4096x512, .f32⟩
  | .hbm, ⟨17, _⟩ => ⟨S8192x512, .f32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Protocol.lean ====
/-
  The protocol of the kernel: who its peer is, which buffers and semaphores it uses, what the buffers hold, and the
  schedule of the semaphores (who pays each, how much, and what it hands over).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Regions
public import Idealize.ShloMosaic.Lib.Pipeline.Kit
public import Idealize.ShloMosaic.Lib.Pipeline.Launch
public import Idealize.ShloMosaic.Lib.Pipeline.RegionTalk
public import Idealize.ShloMosaic.Lib.Rounds
public import Idealize.ShloMosaic.Lib.StableHlo
public import Idealize.ShloMosaic.Lib.StableHlo.CollectiveRules
public import Idealize.ShloMosaic.Lib.Tactic

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's part and the protocol's own. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ) (ρ : Dev nD → PrngReg)

/-! ## The peer -/

set_option backward.proofsInPublic true in
/-- The device that differs from `c` in the last mesh axis. -/
def peer (c : Dev nD) : Dev nD := ⟨if c.val % 2 = 0 then c.val + 1 else c.val - 1, by
  have : c.val < 8 := c.isLt
  show _ < 8
  split <;> omega⟩

/-- The neighbour of the neighbour is the device itself. -/
theorem peer_peer (c : Dev nD) : peer (peer c) = c := by revert c; decide
/-- No device is its own neighbour. -/
theorem peer_ne (c : Dev nD) : peer c ≠ c := by revert c; decide

/-- The pairing as a permutation of the devices. -/
def pairing : Dev nD ≃ Dev nD := ⟨peer, peer, peer_peer, peer_peer⟩

/-- Each of the six device numbers that the body computes is the neighbour along z. -/
theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide

/-! ## The buffers -/

/-- The body's buffers: the ids, the table half, the result, the quantised half, the rows sent and received, and the two scales. -/
abbrev idsM : Memref sig .tc .vmem S512x1 .i32 := Memref.whole cc0_stg0_0
abbrev embM : Memref sig .tc .vmem S4096x512 .f32 := Memref.whole cc0_stg1_0
abbrev outM : Memref sig .tc .vmem S512x512 .f32 := Memref.whole cc0_stg2_0
abbrev quantM : Memref sig .tc .vmem S4096x512 .i8 := Memref.whole cc0_scratch0
abbrev sendM : Memref sig .tc .vmem S512x512 .i8 := Memref.whole cc0_scratch1
abbrev recvM : Memref sig .tc .vmem S512x512 .i8 := Memref.whole cc0_scratch2
abbrev scaleM : Memref sig .tc .vmem S8x128 .f32 := Memref.whole cc0_scratch3
abbrev rscaleM : Memref sig .tc .vmem S8x128 .f32 := Memref.whole cc0_scratch4

/-- Every chunk of 128 rows lies inside the 512 rows. -/
theorem rows_inb (k : Fin 4) : ∀ a, (![128 * k.val, 0] : Fin 2 → Nat) a + S128x512.size a ≤ S512x512.size a := by
  revert k; decide
theorem idrows_inb (k : Fin 4) : ∀ a, (![128 * k.val, 0] : Fin 2 → Nat) a + S128x1.size a ≤ S512x1.size a := by
  revert k; decide

/-- Rows 128k to 128k+127 of a 512 x 512 buffer. -/
@[reducible] def rows (k : Fin 4) : Rect S512x512 := Rect.unit (s := S512x512) ![128 * k.val, 0] S128x512.size (rows_inb k)
/-- Rows 128k to 128k+127 of the ids. -/
@[reducible] def idrows (k : Fin 4) : Rect S512x1 := Rect.unit (s := S512x1) ![128 * k.val, 0] S128x1.size (idrows_inb k)

/-- Chunk `k` of the rows sent, of the rows received, and of the result. -/
abbrev sendC (k : Fin 4) : Memref sig .tc .vmem S128x512 .i8 := sendM.slice (rows k) (fun _ => rfl)
abbrev recvC (k : Fin 4) : Memref sig .tc .vmem S128x512 .i8 := recvM.slice (rows k) (fun _ => rfl)
abbrev outC (k : Fin 4) : Memref sig .tc .vmem S128x512 .f32 := outM.slice (rows k) (fun _ => rfl)

/-! ## The semaphores -/

/-- The barrier semaphore. -/
abbrev barS : Sem sig := sig.barrier 0 rfl

/-- The kernel's eleven semaphores: 0 the barrier; 1, 2 the scale's send and receive; 3 to 6 the chunks' sends;
    7 to 10 the chunks' receives. -/
def csem : Fin 11 → SemLoc sig := fun
  | 0 => .reg barS | 1 => .dma ⟨11, by decide⟩ | 2 => .dma ⟨12, by decide⟩
  | 3 => .dma ⟨3, by decide⟩ | 4 => .dma ⟨4, by decide⟩ | 5 => .dma ⟨5, by decide⟩ | 6 => .dma ⟨6, by decide⟩
  | 7 => .dma ⟨7, by decide⟩ | 8 => .dma ⟨8, by decide⟩ | 9 => .dma ⟨9, by decide⟩ | 10 => .dma ⟨10, by decide⟩

/-- The eleven semaphores are different. -/
theorem csem_inj : Function.Injective csem := by decide

/-- A semaphore's place among the eleven. -/
def kindOf (sm : SemLoc sig) : Option (Fin 11) :=
  (List.finRange 11).find? fun k => csem k = sm

/-- The kind of a semaphore is its number among the eleven. -/
theorem kindOf_csem (k : Fin 11) : kindOf (csem k) = some k := by revert k; decide

/-- Semaphore `k` of device `c`. -/
abbrev kcell (ck : Dev nD × Fin 11) : GSem nD τ sig := ((ck.1 : Thread nD τ), csem ck.2)

/-- Different devices or different kinds give different semaphore cells. -/
theorem kcell_inj : Function.Injective kcell := fun x y h => by
  obtain ⟨c, k⟩ := x; obtain ⟨d, l⟩ := y
  have h1 : (c : Thread nD τ) = (d : Thread nD τ) := congrArg Prod.fst h
  have h2 : csem k = csem l := congrArg Prod.snd h
  exact Prod.ext (congrArg (fun t : Thread nD τ => t.1) h1) (csem_inj h2)

/-- The transfer amounts: the scale's and a chunk's. -/
abbrev Ns : ℕ := (rscaleM : Memref sig .tc .vmem S8x128 .f32).view.dmaCredit
/-- The units with which one chunk's copy credits its semaphores. -/
abbrev Nc : ℕ := (recvC 0).view.dmaCredit
theorem Ns_pos : 0 < Ns := View.dmaCredit_pos _ (by decide)
theorem Nc_pos : 0 < Nc := View.dmaCredit_pos _ (by decide)

/-- Every chunk's copy has the same units. -/
theorem credit_chunk (k : Fin 4) : (recvC k).view.dmaCredit = Nc := rfl
theorem credit_send (k : Fin 4) : (sendC k).view.dmaCredit = Nc := by revert k; decide

/-- What one unit of use of semaphore `k` counts. -/
def amt : Fin 11 → ℕ := fun
  | 0 => 1 | 1 => Ns | 2 => Ns | _ => Nc

/-- Every duty has a positive amount. -/
theorem amt_pos (k : Fin 11) : 0 < amt k := by
  unfold amt; split
  · exact Nat.one_pos
  · exact Ns_pos
  · exact Ns_pos
  · exact Nc_pos

/-- The send and receive semaphores of chunk `k`. -/
def kS (k : Fin 4) : Fin 11 := ⟨3 + k.val, by omega⟩
/-- The kind of chunk `k`'s receive semaphore. -/
def kR (k : Fin 4) : Fin 11 := ⟨7 + k.val, by omega⟩

theorem amt_kS (k : Fin 4) : amt (kS k) = Nc := by fin_cases k <;> rfl
theorem amt_kR (k : Fin 4) : amt (kR k) = Nc := by fin_cases k <;> rfl

/-! ## The contents -/

/-- The ids as device `c` stages them. -/
def idsAt (c : Dev nD) : Vec F S512x1 .i32 := (win0_0.blk t0_0).view.read (Elt F) (V m c main_v1)
/-- The half table as device `c` stages it. -/
def embAt (c : Dev nD) : Vec F S4096x512 .f32 := (win0_1.blk t0_0).view.read (Elt F) (V m c main_arg1)

/-- The device's vocabulary half. -/
abbrev half (c : Dev nD) : BitVec 32 := Scalar.remsi (Scalar.divsi (Dev.word c) 1#32) 2#32
/-- The scale of the half table. -/
abbrev scaleOf (c : Dev nD) : F .f32 := k0_pay1 (embAt m c)
/-- The quantised half table. -/
def quantAt (c : Dev nD) : Vec F S4096x512 .i8 := k0_pay2 (embAt m c) (embAt m c)
/-- The scale, broadcast to one tile. -/
def scaleTile (c : Dev nD) : Vec F S8x128 .f32 := k0_pay4 (k0_pay3 (embAt m c))
/-- The ids of chunk `k`. -/
abbrev idsOf (c : Dev nD) (k : Fin 4) : Vec F S128x1 .i32 := fun j => idsAt m c ((idrows k).emb j)
/-- The rows of chunk `k` that the half table has, zero elsewhere. -/
def sendV (c : Dev nD) (k : Fin 4) : Vec F S128x512 .i8 := k0_pay5 (half c) (idsOf m c k) (quantAt m c)
/-- The result of chunk `k`. -/
def outV (c : Dev nD) (k : Fin 4) : Vec F S128x512 .f32 :=
  k0_pay11 (scaleOf m c) (scaleOf m (peer c)) (sendV m c k) (sendV m (peer c) k)

/-- A 512 x 512 array from its four chunks of rows. -/
def glue {e : EltTy} (w : Fin 4 → Vec F S128x512 e) : Vec F S512x512 e := fun i =>
  w ⟨(i 0).val / 128, by have : (i 0).val < 512 := (i 0).isLt; omega⟩
    (fun | 0 => ⟨(i 0).val % 128, Nat.mod_lt _ (by decide)⟩ | 1 => i 1)

/-- Row `j` of chunk `k` is row `128 k + j` of the whole. -/
theorem rows_emb_zero (k : Fin 4) (j : S128x512.Idx) : ((rows k).emb j 0).val = 128 * k.val + (j 0).val := by
  show 128 * k.val + 1 * (j 0).val = _
  omega
/-- A chunk keeps the columns. -/
theorem rows_emb_one (k : Fin 4) (j : S128x512.Idx) : ((rows k).emb j 1).val = (j 1).val := by
  show 0 + 1 * (j 1).val = _
  omega

/-- The glued array's chunk `k` is the `k`-th chunk. -/
theorem glue_rows {e : EltTy} (w : Fin 4 → Vec F S128x512 e) (k : Fin 4) (j : S128x512.Idx) :
    glue w ((rows k).emb j) = w k j := by
  have h0 := rows_emb_zero k j
  have h1 := rows_emb_one k j
  have hj : (j 0).val < 128 := (j 0).isLt
  unfold glue
  have hk : (⟨((rows k).emb j 0).val / 128, by have : ((rows k).emb j 0).val < 512 := ((rows k).emb j 0).isLt; omega⟩ : Fin 4) = k :=
    Fin.ext (by show ((rows k).emb j 0).val / 128 = k.val; omega)
  rw [hk]
  congr 1
  funext a
  fin_cases a
  · exact Fin.ext (by show ((rows k).emb j 0).val % 128 = (j 0).val; omega)
  · exact Fin.ext h1

/-- The result on device `c`. -/
def outAt (c : Dev nD) : Vec F S512x512 .f32 := glue (outV m c)

/-! ## What each semaphore hands over -/

/-- Device `c`'s barrier unit comes from its peer and hands over the peer's two landing buffers, with the word that
    the peer's receive cells are open. -/
def barPay (c : Dev nD) : sProp 𝕄 :=
  iprop((∃ w, owns (peer c : Thread nD τ) rscaleM fullShare w)
    ∗ (∃ w, owns (peer c : Thread nD τ) (recvC 0) fullShare w) ∗ (∃ w, owns (peer c : Thread nD τ) (recvC 1) fullShare w)
    ∗ (∃ w, owns (peer c : Thread nD τ) (recvC 2) fullShare w) ∗ (∃ w, owns (peer c : Thread nD τ) (recvC 3) fullShare w)
    ∗ reached ER (kcell (peer c, 2)) 0 ∗ reached ER (kcell (peer c, 7)) 0 ∗ reached ER (kcell (peer c, 8)) 0
    ∗ reached ER (kcell (peer c, 9)) 0 ∗ reached ER (kcell (peer c, 10)) 0)

/-- Chunk `k`'s send returns the share of the source lent to it; its receive hands over the peer's rows. -/
def sendPay (c : Dev nD) (k : Fin 4) : sProp 𝕄 := owns (c : Thread nD τ) (sendC k) fullShare.left (sendV m c k)
/-- What the landing of chunk `k` hands over: the chunk of the receive buffer, holding the neighbour's rows. -/
def recvPay (c : Dev nD) (k : Fin 4) : sProp 𝕄 := owns (c : Thread nD τ) (recvC k) fullShare (sendV m (peer c) k)

/-- What each duty hands over, by kind. -/
def pay : Fin 11 → Dev nD → sProp 𝕄 := fun
  | 0 => fun c => barPay c
  | 1 => fun c => owns (c : Thread nD τ) scaleM fullShare (scaleTile m c)
  | 2 => fun c => owns (c : Thread nD τ) rscaleM fullShare (scaleTile m (peer c))
  | 3 => fun c => sendPay m c 0 | 4 => fun c => sendPay m c 1 | 5 => fun c => sendPay m c 2 | 6 => fun c => sendPay m c 3
  | 7 => fun c => recvPay m c 0 | 8 => fun c => recvPay m c 1 | 9 => fun c => recvPay m c 2 | 10 => fun c => recvPay m c 3

theorem pay_kS (c : Dev nD) (k : Fin 4) : pay m (kS k) c = sendPay m c k := by fin_cases k <;> rfl
theorem pay_kR (c : Dev nD) (k : Fin 4) : pay m (kR k) c = recvPay m c k := by fin_cases k <;> rfl

instance pay_storable (k : Fin 11) (c : Dev nD) : BI.Storable (upEmb : UEmb _ 𝕄) (pay (F := F) m k c) := by
  unfold pay barPay sendPay recvPay
  fin_cases k <;> infer_instance

/-- Each of the eleven semaphores of each device is used once, in round 0. -/
def sched : Rounds.Schedule (GSem nD τ sig) Unit 𝕄 where
  duties g r := if r = 0 ∧ g.1.2 = .tc ∧ (kindOf g.2).isSome then {()} else ∅
  unitless _ := False
  amount g _ _ := match kindOf g.2 with | some k => amt k | none => 1
  payload g _ _ := match kindOf g.2 with | some k => pay m k g.1.1 | none => iprop(emp)
  amount_pos g _ _ _ := by
    split
    · exact amt_pos _
    · exact Nat.one_pos

instance sched_storable (g : GSem nD τ sig) (r : ℕ) (d : Unit) :
    BI.Storable (upEmb : UEmb _ 𝕄) ((sched (F := F) m).payload g r d) := by
  show BI.Storable upEmb (match kindOf g.2 with | some k => pay m k g.1.1 | none => iprop(emp))
  split <;> infer_instance

section Sched

variable (c : Dev nD) (k : Fin 11)

/-- Each cell has one duty, in round 0, with the amount and the payload of its kind. -/
theorem duties_k : (sched (F := F) m).duties (kcell (c, k)) 0 = {()} := by
  dsimp only [sched]; exact if_pos ⟨rfl, rfl, by rw [kindOf_csem]; rfl⟩
theorem duty_k : () ∈ (sched (F := F) m).duties (kcell (c, k)) 0 := by rw [duties_k]; exact Finset.mem_singleton_self _
/-- No cell has a duty after round 0. -/
theorem duties_later (g : GSem nD τ sig) : ∀ r, 1 ≤ r → (sched (F := F) m).duties g r = ∅ :=
  fun r hr => by dsimp only [sched]; rw [if_neg (fun h => by omega)]
theorem amount_k (u : Unit) : (sched (F := F) m).amount (kcell (c, k)) 0 u = amt k := by
  dsimp only [sched]; rw [kindOf_csem]
theorem expect_k : (sched (F := F) m).expect (kcell (c, k)) 0 = amt k := by
  unfold Schedule.expect Schedule.amountOf; rw [duties_k, Finset.sum_singleton, amount_k]
theorem payload_k (u : Unit) : (sched (F := F) m).payload (kcell (c, k)) 0 u = pay m k c := by
  dsimp only [sched]; rw [kindOf_csem]
theorem rest_k : bigSep ((sched (F := F) m).duties (kcell (c, k)) 0 \ ∅) (fun u => (sched (F := F) m).payload (kcell (c, k)) 0 u)
    = pay m k c := by
  rw [Finset.sdiff_empty, duties_k, bigSep_singleton, payload_k]

end Sched

/-! ## What each device owes, and the order of the waits -/

/-- What device `c` owes its peer for the semaphores in a list, the first paid first. -/
def owe (c : Dev nD) : List (Fin 11) → CellTallies nD τ sig Unit
  | [] => 0
  | k :: l => owe c l + tallyAt (kcell (peer c, k)) () (amt k)

/-- At launch: a barrier unit, the scale and the four chunks. -/
def O₀ (c : Dev nD) : CellTallies nD τ sig Unit := owe c [0, 2, 7, 8, 9, 10]

/-- What a device owes is owed on a cell that it pays. -/
theorem owe_pos {c : Dev nD} {l : List (Fin 11)} {g : GSem nD τ sig} {u : Unit} (h : 0 < owe c l g u) :
    ∃ k ∈ l, g = kcell (peer c, k) := by
  induction l with
  | nil => exact absurd h (Nat.lt_irrefl 0)
  | cons k l ih =>
    have h' : 0 < owe c l g u + tallyAt (kcell (peer c, k)) () (amt k) g u := h
    rw [tallyAt_apply] at h'
    by_cases hg : g = kcell (peer c, k) ∧ u = ()
    · exact ⟨k, List.mem_cons_self, hg.1⟩
    · rw [if_neg hg, Nat.add_zero] at h'
      obtain ⟨k', hk', e⟩ := ih h'
      exact ⟨k', List.mem_cons_of_mem _ hk', e⟩

/-- What `d` owes at a cell: the cell's amount, if `d` is the peer of the cell's device and the cell is in the list. -/
theorem owe_at (d c : Dev nD) (k : Fin 11) (l : List (Fin 11)) (hl : l.Nodup) :
    owe d l (kcell (c, k)) () = if d = peer c then (if k ∈ l then amt k else 0) else 0 := by
  induction l with
  | nil => show (0 : ℕ) = _; simp
  | cons j l ih =>
    have hn := List.nodup_cons.mp hl
    show owe d l (kcell (c, k)) () + tallyAt (kcell (peer d, j)) () (amt j) (kcell (c, k)) () = _
    rw [ih hn.2, tallyAt_apply]
    by_cases hd : d = peer c
    · have hd' : peer d = c := by rw [hd, peer_peer]
      rw [if_pos hd, if_pos hd, hd']
      by_cases hj : k = j
      · subst hj
        rw [if_neg hn.1, if_pos ⟨rfl, rfl⟩, if_pos List.mem_cons_self, Nat.zero_add]
      · rw [if_neg (fun h : kcell (c, k) = kcell (c, j) ∧ () = () => hj (congrArg Prod.snd (kcell_inj h.1)))]
        by_cases hk : k ∈ l
        · rw [if_pos hk, if_pos (List.mem_cons_of_mem _ hk), Nat.add_zero]
        · rw [if_neg hk, if_neg (fun h : k ∈ j :: l => Or.elim (List.mem_cons.mp (show k ∈ j :: l from h)) hj hk)]
    · rw [if_neg hd, if_neg hd, if_neg (fun h : kcell (c, k) = kcell (peer d, j) ∧ () = () => hd (by
        have := congrArg Prod.fst (kcell_inj h.1)
        rw [show c = peer d from this, peer_peer]))]

/-- Only the cells of TensorCore threads have a level. -/
def L (g : GSem nD τ sig) : Finset Unit := if g.1.2 = .tc then {()} else ∅
/-- The barrier below the receive cells. -/
def lv (g : GSem nD τ sig) (_ : Unit) : ℕ :=
  match kindOf g.2 with
  | some 0 => 1 | some 2 => 2 | some 7 => 2 | some 8 => 2 | some 9 => 2 | some 10 => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- The barrier wait happens while the scale and the chunks are owed. -/
theorem mayWait_bar (c : Dev nD) : (levAts L lv : sProp 𝕄) ⊢ MayWait (c : Thread nD τ) (csem 0) () (owe c [2, 7, 8, 9, 10]) :=
  MayOwe.of_cut (L := L) (lev := lv) 1 (fun p hp => by rw [Finset.mem_singleton.mp hp, L_tc]; exact Finset.mem_singleton_self _)
    (fun g u hg => by obtain ⟨k, hk, rfl⟩ := owe_pos hg; rw [L_tc]; exact Finset.mem_singleton_self _)
    (fun p hp => by rw [Finset.mem_singleton.mp hp]; dsimp only [lv]; rw [kindOf_csem]; exact le_refl 1)
    (fun g u hg => by
      obtain ⟨k, hk, rfl⟩ := owe_pos hg
      dsimp only [lv]; rw [kindOf_csem]
      clear hg; revert k; decide)

end Cert.Lookup
-- ==== Proof.Steps.lean ====
/-
  One rule for each kind of operation of the kernel's body, at the kernel's protocol: the barrier's signal and wait, the
  transfers to the peer, the waits of the transfer semaphores, and loads and stores of parts of buffers.
-/
module

public import proofs.«01_k».proof.Proof.Protocol

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The invariants -/

/-- The invariants of all the semaphores of the kernel, at the names they were given at launch. -/
def invs (K : GSem nD τ sig → ℕ) : sProp 𝕄 :=
  bigSep Finset.univ fun x : Dev nD × Fin 11 => cellInv ER (sched m) (K (kcell x)) (kcell x)

instance invs_persistent (K : GSem nD τ sig → ℕ) : BI.Persistent (invs m K) := by unfold invs; infer_instance

theorem invs_at (K : GSem nD τ sig → ℕ) (x : Dev nD × Fin 11) :
    invs m K ⊢ cellInv ER (sched m) (K (kcell x)) (kcell x) := by
  unfold invs; exact bigSep_elim (Finset.mem_univ x)

variable (K : GSem nD τ sig → ℕ) (c : Dev nD)

/-- Contents that read as `w` make the memref owned at `w`. -/
theorem owns_intro (t : Thread nD τ) {sp : Space} {s : Shape} {e : EltTy} (M : Memref sig t.2.kind sp s e) (q : PosShare TreeShare)
    (w : s.Idx → Elt F e) (f : Buf (Elt F) (M.view.loc t)) (hf : M.view.read (Elt F) f = w) :
    ((M.view.loc t ↦[M.view.set]{q} f) : sProp 𝕄) ⊢ owns t M q w := by
  unfold owns
  iintro H
  iexists f
  isplitr; · ipureintro; exact hf
  iexact H

/-! ## The barrier -/

/-- What the barrier signal hands over. -/
theorem bar_payload (c : Dev nD) : (sched (F := F) m).payload ((c : Thread nD τ), .reg barS) 0 () = barPay c := payload_k m c 0 ()
theorem bar_rest (c : Dev nD) : bigSep ((sched (F := F) m).duties ((c : Thread nD τ), .reg barS) 0 \ ∅)
    (fun u => (sched (F := F) m).payload ((c : Thread nD τ), .reg barS) 0 u) = barPay c := rest_k m c 0

/-- The barrier signal to the peer. -/
theorem step_signal {α : Type} {Q : α → sProp 𝕄} (n : Dev nD) (hn : n = peer c) (l : List (Fin 11)) (W : Waits sig Unit)
    {k : PUnit → Prog (TpuEff nD τ sig (Elt F) Λ₀ .tc) α} :
    iprop(invs m K ∗ owes (c : Thread nD τ) (owe c (0 :: l)) W ∗ dutyTok ER (kcell (peer c, 0)) 0 ()
        ∗ barPay (peer c) ∗ reached ER (kcell (peer c, 0)) 0)
      ⊢ iprop((owes (c : Thread nD τ) (owe c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hp, #Hr⟩
  iapply (Rounds.wp_signal 𝒱₀ ER (sched m) (c : Thread nD τ) none (dst := (peer c : Thread nD τ)) (sem := barS) (r := 0) (d := ())
    (κ := K (kcell (peer c, 0))) (duty_k m (peer c) 0) (amount_k m (peer c) 0 ()) () (owe c l) rfl)
  isplitr; · iapply (invs_at m K (peer c, 0)); iexact HI
  isplitl [HO]; · iexact HO
  isplitl [Ht]; · iexact Ht
  isplitl [Hp]
  · ihave H := (Entails.of_eq (bar_payload m (peer c)).symm) $$ Hp
    iexact H
  iexact Hr

/-- The barrier wait. -/
theorem step_barWait {α : Type} {Q : α → sProp 𝕄} (W : Waits sig Unit) {k : PUnit → Prog (TpuEff nD τ sig (Elt F) Λ₀ .tc) α} :
    iprop(invs m K ∗ cred (tallyAt (kcell (c, 0)) () (amt 0)) ∗ owes (c : Thread nD τ) (owe c [2, 7, 8, 9, 10]) W ∗ levAts L lv
        ∗ atPos ER (kcell (c, 0)) 0 ∅ 0)
      ⊢ iprop(((∃ W', owes (c : Thread nD τ) (owe c [2, 7, 8, 9, 10]) W') ∗ atPos ER (kcell (c, 0)) (0 + 1) ∅ 0 ∗ barPay c -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨#HI, Hc, HO, #Hlev, Hat⟩ Hk
  iapply (Rounds.wp_wait_rest_token 𝒱₀ ER (sched m) (c : Thread nD τ) none (κ := K (kcell (c, 0)))
      (wpE_semWait_eq 𝒱₀ (c : Thread nD τ) none Set.univ) (Set.mem_univ _) () (O := owe c [2, 7, 8, 9, 10]) (W := W) (R := 0) (m := 0) (T := ∅)
      ((Nat.zero_add 1).trans (expect_k m c 0).symm)) $$ [Hc HO Hat]
  · isplitr; · iapply (invs_at m K (c, 0)); iexact HI
    isplitl [Hc]; · iexact Hc
    isplitl [HO]; · iexact HO
    isplitr; · iapply (mayWait_bar c); iexact Hlev
    iexact Hat
  iintro ⟨HO, Hat, -, Hpay⟩
  ihave Hp := (Entails.of_eq (bar_rest m c)) $$ Hpay
  iapply Hk
  isplitl [HO]; · iexists _; iexact HO
  isplitl [Hat]; · iexact Hat
  iexact Hp

/-! ## Transfers and their waits -/

/-- A transfer to the peer: the share of the source is lent to the send semaphore, what lands to the peer's receive semaphore. -/
theorem step_send {α : Type} {Q : α → sProp 𝕄} (n : Dev nD) (hn : n = peer c) (i j : Fin 11) (l : List (Fin 11)) (W : Waits sig Unit)
    {s : Shape} {e : EltTy} (src dst : Memref sig .tc .vmem s e) (sS sR : DmaSem sig)
    (hS : csem i = .dma sS) (hR : csem j = .dma sR) (q : PosShare TreeShare) (w : s.Idx → Elt F e)
    (hpayS : owns (c : Thread nD τ) src q w ⊢ pay m i c) (hpayR : owns (peer c : Thread nD τ) dst fullShare w ⊢ pay m j (peer c))
    (hN : dst.view.dmaCredit = amt j) (hij : amt i = amt j)
    {k : PUnit → Prog (TpuEff nD τ sig (Elt F) Λ₀ .tc) α}
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) dst (.dma sS) hsc)} :
    iprop(invs m K ∗ owns (c : Thread nD τ) src q w ∗ (∃ w', owns (peer c : Thread nD τ) dst fullShare w')
        ∗ owes (c : Thread nD τ) (owe c (j :: l)) W
        ∗ dutyTok ER (kcell (c, i)) 0 () ∗ reached ER (kcell (c, i)) 0
        ∗ dutyTok ER (kcell (peer c, j)) 0 () ∗ reached ER (kcell (peer c, j)) 0)
      ⊢ iprop((cred (tallyAt (kcell (c, i)) () (amt i)) ∗ owes (c : Thread nD τ) (owe c l) W -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) k) Q) := by
  subst hn
  have e₁ : kcell (c, i) = ((c : Thread nD τ), SemLoc.dma sS) := congrArg (Prod.mk (c : Thread nD τ)) hS
  have e₂ : kcell (peer c, j) = ((peer c : Thread nD τ), SemLoc.dma sR) := congrArg (Prod.mk (peer c : Thread nD τ)) hR
  have d₁ := duty_k m c i
  have d₂ := duty_k m (peer c) j
  have a₁ := amount_k m c i ()
  have a₂ := amount_k m (peer c) j ()
  have p₁ := payload_k m c i ()
  have p₂ := payload_k m (peer c) j ()
  have i₁ := invs_at m K (c, i)
  have i₂ := invs_at m K (peer c, j)
  have o₁ : owe c (j :: l) = owe c l + tallyAt (kcell (peer c, j)) () (amt j) := rfl
  rw [e₁] at d₁ a₁ p₁ i₁ ⊢
  rw [e₂] at d₂ a₂ p₂ i₂ o₁ ⊢
  rw [← hij] at a₂ o₁ hN
  rw [← p₁] at hpayS
  rw [← p₂] at hpayR
  iintro ⟨#HI, Hs, ⟨%w', Hd⟩, HO, HtS, #HrS, HtR, #HrR⟩
  unfold owns
  icases Hs with ⟨%f, %hf, Hs⟩
  icases Hd with ⟨%g, %hg, Hd⟩
  iapply (Rounds.wp_send_pointsTo 𝒱₀ ER (sched m) (c : Thread nD τ) none (c' := (peer c : Thread nD τ)) (src := src) (dst := dst)
    (sS := .dma sS) (sem := .dma sR) (q := q) (fs := f) (κ₁ := K ((c : Thread nD τ), SemLoc.dma sS)) (κ₂ := K ((peer c : Thread nD τ), SemLoc.dma sR))
    (r₁ := 0) (r₂ := 0) (d₁ := ()) (d₂ := ()) (fd := g) d₁ d₂ () () (amt i) hN a₁ a₂ (O₀ := owe c (j :: l)) (owe c l) o₁ (W := W)
    ((owns_intro _ _ _ _ _ hf).trans hpayS)
    ((owns_intro _ _ _ _ _ (by rw [View.read_write_univ]; exact hf)).trans hpayR))
  isplitr; · iapply i₁; iexact HI
  isplitr; · iapply i₂; iexact HI
  isplitl [Hs]; · iexact Hs
  isplitl [Hd]; · iexact Hd
  isplitl [HO]; · iexact HO
  isplitl [HtS]; · iexact HtS
  isplitr; · iexact HrS
  isplitl [HtR]; · iexact HtR
  iexact HrR

/-- The wait of a transfer semaphore, when nothing is owed. -/
theorem step_wait {α : Type} {Q : α → sProp 𝕄} (i : Fin 11) (W : Waits sig Unit)
    {s : Shape} {e : EltTy} (src dst : Memref sig .tc .vmem s e) (sS : DmaSem sig)
    (hS : csem i = .dma sS) (hN : dst.view.dmaCredit = amt i) {hsrc : src.view.WordExact} {hdst : dst.view.WordExact}
    {k : PUnit → Prog (TpuEff nD τ sig (Elt F) Λ₀ .tc) α} :
    iprop(invs m K ∗ cred (tallyAt (kcell (c, i)) () (amt i)) ∗ owes (c : Thread nD τ) (0 : CellTallies nD τ sig Unit) W
        ∗ atPos ER (kcell (c, i)) 0 ∅ 0)
      ⊢ iprop(((∃ W', owes (c : Thread nD τ) (0 : CellTallies nD τ sig Unit) W') ∗ atPos ER (kcell (c, i)) (0 + 1) ∅ 0 ∗ pay m i c -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  have e₁ : kcell (c, i) = ((c : Thread nD τ), SemLoc.dma sS) := congrArg (Prod.mk (c : Thread nD τ)) hS
  have x₁ := expect_k m c i
  have r₁ := rest_k m c i
  have i₁ := invs_at m K (c, i)
  rw [e₁] at x₁ r₁ i₁ ⊢
  rw [← hN] at x₁ ⊢
  iintro ⟨#HI, Hc, HO, Hat⟩ Hk
  iapply (Rounds.wp_wait_rest_token 𝒱₀ ER (sched m) (c : Thread nD τ) none (κ := K ((c : Thread nD τ), SemLoc.dma sS))
      (wpE_waitDma2_eq (src := src) (dst := dst) (sem := sS) (hsrc := hsrc) (hdst := hdst) 𝒱₀ (c : Thread nD τ) none Set.univ)
      (Set.mem_univ _) () (O := 0) (W := W) (R := 0) (m := 0) (T := ∅) ((Nat.zero_add _).trans x₁.symm)) $$ [Hc HO Hat]
  · isplitr; · iapply i₁; iexact HI
    isplitl [Hc]; · iexact Hc
    isplitl [HO]; · iexact HO
    isplitr; · rw [MayWait_zero]; iempintro
    iexact Hat
  iintro ⟨HO, Hat, -, Hpay⟩
  ihave Hp := (Entails.of_eq r₁) $$ Hpay
  iapply Hk
  isplitl [HO]; · iexists _; iexact HO
  isplitl [Hat]; · iexact Hat
  iexact Hp

/-! ## Loads and stores -/

/-- A load of a rectangle owned as a slice. -/
theorem step_load {α : Type} {Q : α → sProp 𝕄} {s : Shape} {e : EltTy} (M : Memref sig .tc .vmem s e) (r : Rect s) (hr : ∀ a, r.stride a = 1)
    (q : PosShare TreeShare) (w : r.shape.Idx → Elt F e) {hl : M.view.LoadsAt r.toLoadRect}
    {k : (r.toLoadRect.shape.Idx → Elt F e) → Prog (TpuEff nD τ sig (Elt F) Λ₀ .tc) α} :
    owns (c : Thread nD τ) (M.slice r hr) q w
      ⊢ iprop((owns (c : Thread nD τ) (M.slice r hr) q w -∗ wp frame (wpE (defs₀ (F := F)) 𝒱₀ (c : Thread nD τ) none) Set.univ (k w) Q) -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (q := q) (f := f) (S := (M.slice r hr).view.set) (Finset.Subset.refl _)) $$ [H]
  · iexact H
  iintro H
  have e : (M.access r).read (Elt F) f = w := hf
  rw [e]
  iapply Hk
  iexists f
  isplitr; · ipureintro; exact hf
  iexact H

/-- A store of a rectangle owned as a slice. -/
theorem step_store {α : Type} {Q : α → sProp 𝕄} {s : Shape} {e : EltTy} (M : Memref sig .tc .vmem s e) (r : Rect s) (hr : ∀ a, r.stride a = 1)
    (w : r.shape.Idx → Elt F e) {hx : (M.access r).Stores Finset.univ} {hm}
    {k : PUnit → Prog (TpuEff nD τ sig (Elt F) Λ₀ .tc) α} :
    iprop(∃ w₀, owns (c : Thread nD τ) (M.slice r hr) fullShare w₀)
      ⊢ iprop((owns (c : Thread nD τ) (M.slice r hr) fullShare w -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) := by
  unfold owns
  iintro ⟨%w₀, %f, %hf, H⟩ Hk
  iapply (wp_store 𝒱₀ (c : Thread nD τ) none Set.univ (m := M) (r := r) (Mk := Finset.univ) (f := f) (S := (M.slice r hr).view.set)
    (by rw [View.setOn_univ])) $$ [H]
  · iexact H
  iintro H
  iapply Hk
  iexists _
  isplitr [H]; swap; · iexact H
  ipureintro
  exact View.read_write_univ f w

/-- A load of a rectangle of a memref owned whole. -/
theorem step_loadIn {α : Type} {Q : α → sProp 𝕄} {s : Shape} {e : EltTy} (M : Memref sig .tc .vmem s e) (r : Rect s)
    (q : PosShare TreeShare) (X : s.Idx → Elt F e) {hl : M.view.LoadsAt r.toLoadRect}
    {k : (r.toLoadRect.shape.Idx → Elt F e) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k (fun j => X (r.emb j))) Q)
          -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (q := q) (f := f) (S := M.view.set) (View.set_slice_subset _ _)) $$ [H]
  · iexact H
  iintro H
  have e : (M.access r).read (Elt F) f = fun j => X (r.emb j) := by subst hf; rfl
  rw [e]
  iapply Hk
  iexists f
  isplitr; · ipureintro; exact hf
  iexact H

/-- A load of a whole memref. -/
theorem step_loadAll {α : Type} {Q : α → sProp 𝕄} {s : Shape} {e : EltTy} (M : Memref sig .tc .vmem s e) (off : Fin s.rank → ℕ)
    (inb : ∀ a, off a + s.size a ≤ s.size a)
    (q : PosShare TreeShare) (X : s.Idx → Elt F e) {hl : M.view.LoadsAt (Rect.unit (s := s) off s.size inb).toLoadRect}
    {k : (s.Idx → Elt F e) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit (s := s) off s.size inb).toLoadRect hl) k) Q) := by
  have h := step_loadIn (Q := Q) c M (Rect.unit (s := s) off s.size inb) q X (hl := hl) (k := k)
  have e : (fun j => X ((Rect.unit (s := s) off s.size inb).emb j)) = X := by
    funext j
    congr 1
    funext a
    refine Fin.ext ?_
    have := inb a
    show off a + 1 * (j a).val = (j a).val
    omega
  rw [e] at h
  exact h

/-- A store over a whole memref. -/
theorem step_storeAll {α : Type} {Q : α → sProp 𝕄} {s : Shape} {e : EltTy} (M : Memref sig .tc .vmem s e) (off : Fin s.rank → ℕ)
    (inb : ∀ a, off a + s.size a ≤ s.size a) (w : s.Idx → Elt F e) {hx : (M.access (Rect.unit (s := s) off s.size inb)).Stores Finset.univ} {hm}
    {k : PUnit → Prog (TpuEff nD τ sig (Elt F) Λ₀ .tc) α} :
    iprop(∃ w₀, owns (c : Thread nD τ) M fullShare w₀)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := s) off s.size inb) w Finset.univ hx hm) k) Q) := by
  unfold owns
  iintro ⟨%w₀, %f, %hf, H⟩ Hk
  iapply (wp_store 𝒱₀ (c : Thread nD τ) none Set.univ (m := M) (r := Rect.unit (s := s) off s.size inb) (Mk := Finset.univ) (f := f) (S := M.view.set)
    (by rw [View.setOn_univ]; exact View.set_slice_subset _ _)) $$ [H]
  · iexact H
  iintro H
  iapply Hk
  iexists _
  isplitr [H]; swap; · iexact H
  ipureintro
  funext j
  have e : (Rect.unit (s := s) off s.size inb).emb j = j := by
    funext a
    refine Fin.ext ?_
    have := inb a
    show off a + 1 * (j a).val = (j a).val
    omega
  have h : (M.access (Rect.unit (s := s) off s.size inb)).read (Elt F) ((M.access (Rect.unit (s := s) off s.size inb)).write (Elt F) f w Finset.univ) j = w j :=
    congrFun (View.read_write_univ (v := M.access (Rect.unit (s := s) off s.size inb)) f w) j
  have h' : M.view.read (Elt F) ((M.access (Rect.unit (s := s) off s.size inb)).write (Elt F) f w Finset.univ) ((Rect.unit (s := s) off s.size inb).emb j) = w j := h
  rw [e] at h'
  exact h'

end Cert.Lookup
-- ==== Proof.Body.lean ====
/-
  The kernel's body, part by part: what each part needs and what it leaves.
-/
module

public import proofs.«01_k».proof.Proof.Steps

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The semaphores as the kernel reaches them -/

/-- The semaphores that the body names are the ones of the protocol. -/
theorem sem_scaleSend : (cc0_scratch7 : DmaSems sig S_).sem = (⟨11, by decide⟩ : DmaSem sig) := rfl
theorem sem_scaleRecv : (cc0_scratch8 : DmaSems sig S_).sem = (⟨12, by decide⟩ : DmaSem sig) := rfl
theorem sem_send0 : ((cc0_scratch5.slice (Rect.unit (s := S4) ![0] S1.size inb_S4_S1_0)).squeeze S_ squeezes_S1_S_).sem = (⟨3, by decide⟩ : DmaSem sig) := rfl
theorem sem_recv0 : ((cc0_scratch6.slice (Rect.unit (s := S4) ![0] S1.size inb_S4_S1_0)).squeeze S_ squeezes_S1_S_).sem = (⟨7, by decide⟩ : DmaSem sig) := rfl
theorem sem_send1 : ((cc0_scratch5.slice (Rect.unit (s := S4) ![1] S1.size inb_S4_S1_1)).squeeze S_ squeezes_S1_S_).sem = (⟨4, by decide⟩ : DmaSem sig) := rfl
theorem sem_recv1 : ((cc0_scratch6.slice (Rect.unit (s := S4) ![1] S1.size inb_S4_S1_1)).squeeze S_ squeezes_S1_S_).sem = (⟨8, by decide⟩ : DmaSem sig) := rfl
theorem sem_send2 : ((cc0_scratch5.slice (Rect.unit (s := S4) ![2] S1.size inb_S4_S1_2)).squeeze S_ squeezes_S1_S_).sem = (⟨5, by decide⟩ : DmaSem sig) := rfl
theorem sem_recv2 : ((cc0_scratch6.slice (Rect.unit (s := S4) ![2] S1.size inb_S4_S1_2)).squeeze S_ squeezes_S1_S_).sem = (⟨9, by decide⟩ : DmaSem sig) := rfl
theorem sem_send3 : ((cc0_scratch5.slice (Rect.unit (s := S4) ![3] S1.size inb_S4_S1_3)).squeeze S_ squeezes_S1_S_).sem = (⟨6, by decide⟩ : DmaSem sig) := rfl
theorem sem_recv3 : ((cc0_scratch6.slice (Rect.unit (s := S4) ![3] S1.size inb_S4_S1_3)).squeeze S_ squeezes_S1_S_).sem = (⟨10, by decide⟩ : DmaSem sig) := rfl

variable (h0 : (idsM : Memref sig .tc .vmem S512x1 .i32).IsWhole) (h1 : (embM : Memref sig .tc .vmem S4096x512 .f32).IsWhole)
  (h2 : (outM : Memref sig .tc .vmem S512x512 .f32).IsWhole) (h3 : (quantM : Memref sig .tc .vmem S4096x512 .i8).IsWhole)
  (h4 : (sendM : Memref sig .tc .vmem S512x512 .i8).IsWhole) (h5 : (recvM : Memref sig .tc .vmem S512x512 .i8).IsWhole)
  (h6 : (scaleM : Memref sig .tc .vmem S8x128 .f32).IsWhole) (h7 : (rscaleM : Memref sig .tc .vmem S8x128 .f32).IsWhole)

/-- What a landing hands over, read at the neighbour. -/
theorem recvPay_peer (k : Fin 4) : (owns (peer c : Thread nD τ) (recvC k) fullShare (sendV m c k) : sProp 𝕄) = recvPay m (peer c) k := by
  unfold recvPay; rw [peer_peer]
theorem scalePay_peer : (owns (peer c : Thread nD τ) rscaleM fullShare (scaleTile m c) : sProp 𝕄) = pay m 2 (peer c) := by
  show _ = owns (peer c : Thread nD τ) rscaleM fullShare (scaleTile m (peer (peer c)))
  rw [peer_peer]
theorem pay_at2 : (pay m 2 c : sProp 𝕄) = owns (c : Thread nD τ) rscaleM fullShare (scaleTile m (peer c)) := rfl
theorem pay_at7 : (pay m 7 c : sProp 𝕄) = owns (c : Thread nD τ) (recvC 0) fullShare (sendV m (peer c) 0) := rfl
theorem pay_at8 : (pay m 8 c : sProp 𝕄) = owns (c : Thread nD τ) (recvC 1) fullShare (sendV m (peer c) 1) := rfl
theorem pay_at9 : (pay m 9 c : sProp 𝕄) = owns (c : Thread nD τ) (recvC 2) fullShare (sendV m (peer c) 2) := rfl
theorem pay_at10 : (pay m 10 c : sProp 𝕄) = owns (c : Thread nD τ) (recvC 3) fullShare (sendV m (peer c) 3) := rfl
theorem pay_at1 : (pay m 1 c : sProp 𝕄) = owns (c : Thread nD τ) scaleM fullShare (scaleTile m c) := rfl
theorem pay_at3 : (pay m 3 c : sProp 𝕄) = sendPay m c 0 := rfl
theorem pay_at4 : (pay m 4 c : sProp 𝕄) = sendPay m c 1 := rfl
theorem pay_at5 : (pay m 5 c : sProp 𝕄) = sendPay m c 2 := rfl
theorem pay_at6 : (pay m 6 c : sProp 𝕄) = sendPay m c 3 := rfl

/-- The barrier signal, and the half table quantised. -/
theorem part1
    (Kt : (Σ' (d0 : Dev nD) (v2 : BitVec 32) (v5 : BitVec 32) (v8 : BitVec 32) (v9 : BitVec 32) (v10 : Sems sig S_) (v24 : F .f32), FVec F S8x128 .f32) → sProp 𝕄) :
    iprop(invs m K
        ∗ (∃ W, owes (c : Thread nD τ) (owe c [0, 2, 7, 8, 9, 10]) W)
        ∗ dutyTok ER (kcell (peer c, 0)) 0 ()
        ∗ reached ER (kcell (peer c, 0)) 0
        ∗ barPay (peer c)
        ∗ owns (c : Thread nD τ) embM fullShare (embAt m c)
        ∗ (∃ w, owns (c : Thread nD τ) quantM fullShare w)
        ∗ ((∃ W, owes (c : Thread nD τ) (owe c [2, 7, 8, 9, 10]) W) -∗ owns (c : Thread nD τ) embM fullShare (embAt m c) -∗ owns (c : Thread nD τ) quantM fullShare (quantAt m c) -∗ ∀ v2 v5 v9, Kt ⟨c, v2, v5, half c, v9, SemArray.scalar barS, scaleOf m c, k0_pay3 (embAt m c)⟩))
      ⊢ wp frame (wpE (defs₀ (F := F)) 𝒱₀ (c : Thread nD τ) none) Set.univ (k0_part1 (F := F) idsM h0 embM h1 outM h2 quantM h3 sendM h4 recvM h5 scaleM h6 rscaleM h7 cc0_scratch5 cc0_scratch6 cc0_scratch7 cc0_scratch8) Kt := by
  rw [k0_part1_eq_skeleton]
  unfold k0_part1_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, Ht, #Hr, Hp, HE, ⟨%wq, HQ⟩, Hk⟩
  iapply (step_signal m K c _ (dev1_eq c) [2, 7, 8, 9, 10] _) $$ [HO Ht Hp]
  · isplitr; · iexact HI
    isplitl [HO]; · iexact HO
    isplitl [Ht]; · iexact Ht
    isplitl [Hp]; · iexact Hp
    iexact Hr
  iintro HO
  iapply (step_loadAll c embM _ _ fullShare _) $$ [HE]
  · iexact HE
  iintro HE
  iapply (step_loadAll c embM _ _ fullShare _) $$ [HE]
  · iexact HE
  iintro HE
  iapply (step_loadAll c quantM _ _ fullShare _) $$ [HQ]
  · iexact HQ
  iintro HQ
  iapply (step_storeAll c quantM _ _ _) $$ [HQ]
  · iexists _; iexact HQ
  iintro HQ
  rw [wp_ret]; imodintro
  iapply Hk $$ [HO] [HE] [HQ]
  · iexists _; iexact HO
  · iexact HE
  · iexact HQ

/-- The scale's tile, the barrier wait, the scale's transfer, and the first chunk's one-hot product. -/
theorem part2 (v2 v5 v9 : BitVec 32)
    (Kt : (Σ' (v45 : BitVec 32), IVec S128x4096 16) → sProp 𝕄) :
    iprop(invs m K
        ∗ levAts L lv
        ∗ (∃ W, owes (c : Thread nD τ) (owe c [2, 7, 8, 9, 10]) W)
        ∗ cred (tallyAt (kcell (c, 0)) () (amt 0))
        ∗ atPos ER (kcell (c, 0)) 0 ∅ 0
        ∗ (∃ w, owns (c : Thread nD τ) scaleM fullShare w)
        ∗ dutyTok ER (kcell (c, 1)) 0 ()
        ∗ reached ER (kcell (c, 1)) 0
        ∗ dutyTok ER (kcell (peer c, 2)) 0 ()
        ∗ owns (c : Thread nD τ) idsM fullShare (idsAt m c)
        ∗ owns (c : Thread nD τ) quantM fullShare (quantAt m c)
        ∗ (∃ w, owns (c : Thread nD τ) (sendC 0) fullShare w)
        ∗ ((∃ W, owes (c : Thread nD τ) (owe c [7, 8, 9, 10]) W) -∗ atPos ER (kcell (c, 0)) (0 + 1) ∅ 0 -∗ cred (tallyAt (kcell (c, 1)) () (amt 1)) -∗ (∃ w, owns (peer c : Thread nD τ) (recvC 0) fullShare w) -∗ (∃ w, owns (peer c : Thread nD τ) (recvC 1) fullShare w) -∗ (∃ w, owns (peer c : Thread nD τ) (recvC 2) fullShare w) -∗ (∃ w, owns (peer c : Thread nD τ) (recvC 3) fullShare w) -∗ reached ER (kcell (peer c, 7)) 0 -∗ reached ER (kcell (peer c, 8)) 0 -∗ reached ER (kcell (peer c, 9)) 0 -∗ reached ER (kcell (peer c, 10)) 0 -∗ owns (c : Thread nD τ) idsM fullShare (idsAt m c) -∗ owns (c : Thread nD τ) quantM fullShare (quantAt m c) -∗ owns (c : Thread nD τ) (sendC 0) fullShare (sendV m c 0) -∗ Kt ⟨Scalar.muli (half c) 4096#32, iota .tc S128x4096 16 [1] iota_S128x4096_d1_w16⟩))
      ⊢ wp frame (wpE (defs₀ (F := F)) 𝒱₀ (c : Thread nD τ) none) Set.univ (k0_part2 (F := F) idsM h0 embM h1 outM h2 quantM h3 sendM h4 recvM h5 scaleM h6 rscaleM h7 cc0_scratch5 cc0_scratch6 cc0_scratch7 cc0_scratch8 c v2 v5 (half c) v9 (SemArray.scalar barS) (k0_pay3 (embAt m c))) Kt := by
  rw [k0_part2_eq_skeleton]
  unfold k0_part2_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, #Hlev, ⟨%W, HO⟩, Hc, Hat, ⟨%ws, HS⟩, Ht1, #Hr1, Ht2, HI0, HQ, ⟨%wx, HX⟩, Hk⟩
  iapply (step_loadAll c scaleM _ _ fullShare _) $$ [HS]
  · iexact HS
  iintro HS
  iapply (step_storeAll c scaleM _ _ _) $$ [HS]
  · iexists _; iexact HS
  iintro HS
  iapply (step_barWait m K c _) $$ [Hc HO Hat]
  · isplitr; · iexact HI
    isplitl [Hc]; · iexact Hc
    isplitl [HO]; · iexact HO
    isplitr; · iexact Hlev
    iexact Hat
  iintro ⟨⟨%W', HO⟩, Hat, Hp⟩
  unfold barPay
  icases Hp with ⟨HD, HD0, HD1, HD2, HD3, #Hr2, #Hr7, #Hr8, #Hr9, #Hr10⟩
  iapply (step_send m K c _ (dev2_eq c) 1 2 [7, 8, 9, 10] _ _ _ _ _ rfl rfl fullShare (scaleTile m c) (Entails.of_eq rfl) (Entails.of_eq (scalePay_peer m c)) rfl rfl) $$ [HS HD HO Ht1 Ht2]
  · isplitr; · iexact HI
    isplitl [HS]; · iexact HS
    isplitl [HD]; · iexact HD
    isplitl [HO]; · iexact HO
    isplitl [Ht1]; · iexact Ht1
    isplitr; · iexact Hr1
    isplitl [Ht2]; · iexact Ht2
    iexact Hr2
  iintro ⟨HC1, HO⟩
  iapply (step_loadIn c idsM _ fullShare _) $$ [HI0]
  · iexact HI0
  iintro HI0
  iapply (step_loadAll c quantM _ _ fullShare _) $$ [HQ]
  · iexact HQ
  iintro HQ
  iapply (step_load c sendM _ (fun _ => rfl) fullShare _) $$ [HX]
  · iexact HX
  iintro HX
  iapply (step_store c sendM _ (fun _ => rfl) _) $$ [HX]
  · iexists _; iexact HX
  iintro HX
  rw [wp_ret]; imodintro
  iapply Hk $$ [HO] [Hat] [HC1] [HD0] [HD1] [HD2] [HD3] [] [] [] [] [HI0] [HQ] [HX]
  · iexists _; iexact HO
  · iexact Hat
  · iexact HC1
  · iexact HD0
  · iexact HD1
  · iexact HD2
  · iexact HD3
  · iexact Hr7
  · iexact Hr8
  · iexact Hr9
  · iexact Hr10
  · iexact HI0
  · iexact HQ
  · iexact HX

/-- The first chunk's transfer, the second chunk and its transfer. -/
theorem part3 (v2 v5 v9 : BitVec 32)
    (Kt : IVec S128x1 16 → sProp 𝕄) :
    iprop(invs m K
        ∗ (∃ W, owes (c : Thread nD τ) (owe c [7, 8, 9, 10]) W)
        ∗ owns (c : Thread nD τ) (sendC 0) fullShare (sendV m c 0)
        ∗ (∃ w, owns (peer c : Thread nD τ) (recvC 0) fullShare w)
        ∗ dutyTok ER (kcell (c, 3)) 0 ()
        ∗ reached ER (kcell (c, 3)) 0
        ∗ dutyTok ER (kcell (peer c, 7)) 0 ()
        ∗ reached ER (kcell (peer c, 7)) 0
        ∗ owns (c : Thread nD τ) idsM fullShare (idsAt m c)
        ∗ owns (c : Thread nD τ) quantM fullShare (quantAt m c)
        ∗ (∃ w, owns (c : Thread nD τ) (sendC 1) fullShare w)
        ∗ (∃ w, owns (peer c : Thread nD τ) (recvC 1) fullShare w)
        ∗ dutyTok ER (kcell (c, 4)) 0 ()
        ∗ reached ER (kcell (c, 4)) 0
        ∗ dutyTok ER (kcell (peer c, 8)) 0 ()
        ∗ reached ER (kcell (peer c, 8)) 0
        ∗ ((∃ W, owes (c : Thread nD τ) (owe c [9, 10]) W) -∗ cred (tallyAt (kcell (c, 3)) () (amt 3)) -∗ owns (c : Thread nD τ) (sendC 0) fullShare.right (sendV m c 0) -∗ cred (tallyAt (kcell (c, 4)) () (amt 4)) -∗ owns (c : Thread nD τ) (sendC 1) fullShare.right (sendV m c 1) -∗ owns (c : Thread nD τ) idsM fullShare (idsAt m c) -∗ owns (c : Thread nD τ) quantM fullShare (quantAt m c) -∗ ∀ v, ⌜v = k0_pay7 (Scalar.muli (half c) 4096#32) (idsOf m c 2)⌝ -∗ Kt v))
      ⊢ wp frame (wpE (defs₀ (F := F)) 𝒱₀ (c : Thread nD τ) none) Set.univ (k0_part3 (F := F) idsM h0 embM h1 outM h2 quantM h3 sendM h4 recvM h5 scaleM h6 rscaleM h7 cc0_scratch5 cc0_scratch6 cc0_scratch7 cc0_scratch8 c v2 v5 v9 (Scalar.muli (half c) 4096#32) (iota .tc S128x4096 16 [1] iota_S128x4096_d1_w16)) Kt := by
  rw [k0_part3_eq_skeleton]
  unfold k0_part3_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, HX0, HD0, HtS0, #HrS0, HtR0, #HrR0, HI0, HQ, ⟨%wx, HX1⟩, HD1, HtS1, #HrS1, HtR1, #HrR1, Hk⟩
  ihave HX0' := (owns_share (c : Thread nD τ) (sendC 0) (PosShare.mem_left_op_right fullShare) (sendV m c 0)).1 $$ [HX0]
  · iexact HX0
  icases HX0' with ⟨HL0, HX0⟩
  iapply (step_send m K c _ (dev3_eq c) 3 7 [8, 9, 10] _ _ _ _ _ rfl rfl fullShare.left (sendV m c 0) (Entails.of_eq rfl) (Entails.of_eq (recvPay_peer m c 0)) rfl rfl) $$ [HL0 HD0 HO HtS0 HtR0]
  · isplitr; · iexact HI
    isplitl [HL0]; · iexact HL0
    isplitl [HD0]; · iexact HD0
    isplitl [HO]; · iexact HO
    isplitl [HtS0]; · iexact HtS0
    isplitr; · iexact HrS0
    isplitl [HtR0]; · iexact HtR0
    iexact HrR0
  iintro ⟨HC0, HO⟩
  iapply (step_loadIn c idsM _ fullShare _) $$ [HI0]
  · iexact HI0
  iintro HI0
  iapply (step_loadAll c quantM _ _ fullShare _) $$ [HQ]
  · iexact HQ
  iintro HQ
  iapply (step_load c sendM _ (fun _ => rfl) fullShare _) $$ [HX1]
  · iexact HX1
  iintro HX1
  iapply (step_store c sendM _ (fun _ => rfl) _) $$ [HX1]
  · iexists _; iexact HX1
  iintro HX1
  ihave HX1' := (owns_share (c : Thread nD τ) (sendC 1) (PosShare.mem_left_op_right fullShare) (sendV m c 1)).1 $$ [HX1]
  · iexact HX1
  icases HX1' with ⟨HL1, HX1⟩
  iapply (step_send m K c _ (dev4_eq c) 4 8 [9, 10] _ _ _ _ _ rfl rfl fullShare.left (sendV m c 1) (Entails.of_eq rfl) (Entails.of_eq (recvPay_peer m c 1)) rfl rfl) $$ [HL1 HD1 HO HtS1 HtR1]
  · isplitr; · iexact HI
    isplitl [HL1]; · iexact HL1
    isplitl [HD1]; · iexact HD1
    isplitl [HO]; · iexact HO
    isplitl [HtS1]; · iexact HtS1
    isplitr; · iexact HrS1
    isplitl [HtR1]; · iexact HtR1
    iexact HrR1
  iintro ⟨HC1, HO⟩
  iapply (step_loadIn c idsM _ fullShare _) $$ [HI0]
  · iexact HI0
  iintro HI0
  rw [wp_ret]; imodintro
  iapply Hk $$ [HO] [HC0] [HX0] [HC1] [HX1] [HI0] [HQ] []
  · iexists _; iexact HO
  · iexact HC0
  · iexact HX0
  · iexact HC1
  · iexact HX1
  · iexact HI0
  · iexact HQ
  · ipureintro; rfl

/-- The third chunk and its transfer, the fourth chunk. -/
theorem part4 (v2 v5 v9 : BitVec 32)
    (Kt : PUnit → sProp 𝕄) :
    iprop(invs m K
        ∗ (∃ W, owes (c : Thread nD τ) (owe c [9, 10]) W)
        ∗ (∃ w, owns (c : Thread nD τ) (sendC 2) fullShare w)
        ∗ (∃ w, owns (peer c : Thread nD τ) (recvC 2) fullShare w)
        ∗ dutyTok ER (kcell (c, 5)) 0 ()
        ∗ reached ER (kcell (c, 5)) 0
        ∗ dutyTok ER (kcell (peer c, 9)) 0 ()
        ∗ reached ER (kcell (peer c, 9)) 0
        ∗ owns (c : Thread nD τ) idsM fullShare (idsAt m c)
        ∗ owns (c : Thread nD τ) quantM fullShare (quantAt m c)
        ∗ (∃ w, owns (c : Thread nD τ) (sendC 3) fullShare w)
        ∗ ((∃ W, owes (c : Thread nD τ) (owe c [10]) W) -∗ cred (tallyAt (kcell (c, 5)) () (amt 5)) -∗ owns (c : Thread nD τ) (sendC 2) fullShare.right (sendV m c 2) -∗ owns (c : Thread nD τ) (sendC 3) fullShare (sendV m c 3) -∗ owns (c : Thread nD τ) idsM fullShare (idsAt m c) -∗ owns (c : Thread nD τ) quantM fullShare (quantAt m c) -∗ Kt ⟨⟩))
      ⊢ wp frame (wpE (defs₀ (F := F)) 𝒱₀ (c : Thread nD τ) none) Set.univ (k0_part4 (F := F) idsM h0 embM h1 outM h2 quantM h3 sendM h4 recvM h5 scaleM h6 rscaleM h7 cc0_scratch5 cc0_scratch6 cc0_scratch7 cc0_scratch8 c v2 v5 v9 (Scalar.muli (half c) 4096#32) (iota .tc S128x4096 16 [1] iota_S128x4096_d1_w16) (k0_pay7 (Scalar.muli (half c) 4096#32) (idsOf m c 2))) Kt := by
  rw [k0_part4_eq_skeleton]
  unfold k0_part4_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, ⟨%wx, HX2⟩, HD2, HtS2, #HrS2, HtR2, #HrR2, HI0, HQ, ⟨%wy, HX3⟩, Hk⟩
  iapply (step_loadAll c quantM _ _ fullShare _) $$ [HQ]
  · iexact HQ
  iintro HQ
  iapply (step_load c sendM _ (fun _ => rfl) fullShare _) $$ [HX2]
  · iexact HX2
  iintro HX2
  iapply (step_store c sendM _ (fun _ => rfl) _) $$ [HX2]
  · iexists _; iexact HX2
  iintro HX2
  ihave HX2' := (owns_share (c : Thread nD τ) (sendC 2) (PosShare.mem_left_op_right fullShare) (sendV m c 2)).1 $$ [HX2]
  · iexact HX2
  icases HX2' with ⟨HL2, HX2⟩
  iapply (step_send m K c _ (dev5_eq c) 5 9 [10] _ _ _ _ _ rfl rfl fullShare.left (sendV m c 2) (Entails.of_eq rfl) (Entails.of_eq (recvPay_peer m c 2)) rfl rfl) $$ [HL2 HD2 HO HtS2 HtR2]
  · isplitr; · iexact HI
    isplitl [HL2]; · iexact HL2
    isplitl [HD2]; · iexact HD2
    isplitl [HO]; · iexact HO
    isplitl [HtS2]; · iexact HtS2
    isplitr; · iexact HrS2
    isplitl [HtR2]; · iexact HtR2
    iexact HrR2
  iintro ⟨HC2, HO⟩
  iapply (step_loadIn c idsM _ fullShare _) $$ [HI0]
  · iexact HI0
  iintro HI0
  iapply (step_loadAll c quantM _ _ fullShare _) $$ [HQ]
  · iexact HQ
  iintro HQ
  iapply (step_load c sendM _ (fun _ => rfl) fullShare _) $$ [HX3]
  · iexact HX3
  iintro HX3
  iapply (step_store c sendM _ (fun _ => rfl) _) $$ [HX3]
  · iexists _; iexact HX3
  iintro HX3
  rw [wp_ret]; imodintro
  iapply Hk $$ [HO] [HC2] [HX2] [HX3] [HI0] [HQ]
  · iexists _; iexact HO
  · iexact HC2
  · iexact HX2
  · iexact HX3
  · iexact HI0
  · iexact HQ

/-- The fourth chunk's transfer, the peer's scale, the wait for the peer's first chunk. -/
theorem part5 (v2 v5 v9 : BitVec 32)
    (Kt : F .f32 → sProp 𝕄) :
    iprop(invs m K
        ∗ (∃ W, owes (c : Thread nD τ) (owe c [10]) W)
        ∗ owns (c : Thread nD τ) (sendC 3) fullShare (sendV m c 3)
        ∗ (∃ w, owns (peer c : Thread nD τ) (recvC 3) fullShare w)
        ∗ dutyTok ER (kcell (c, 6)) 0 ()
        ∗ reached ER (kcell (c, 6)) 0
        ∗ dutyTok ER (kcell (peer c, 10)) 0 ()
        ∗ reached ER (kcell (peer c, 10)) 0
        ∗ cred (tallyAt (kcell (c, 2)) () (amt 2))
        ∗ atPos ER (kcell (c, 2)) 0 ∅ 0
        ∗ cred (tallyAt (kcell (c, 7)) () (amt 7))
        ∗ atPos ER (kcell (c, 7)) 0 ∅ 0
        ∗ ((∃ W, owes (c : Thread nD τ) (owe c []) W) -∗ cred (tallyAt (kcell (c, 6)) () (amt 6)) -∗ owns (c : Thread nD τ) (sendC 3) fullShare.right (sendV m c 3) -∗ atPos ER (kcell (c, 2)) (0 + 1) ∅ 0 -∗ owns (c : Thread nD τ) rscaleM fullShare (scaleTile m (peer c)) -∗ atPos ER (kcell (c, 7)) (0 + 1) ∅ 0 -∗ recvPay m c 0 -∗ ∀ v, ⌜v = scaleOf m (peer c)⌝ -∗ Kt v))
      ⊢ wp frame (wpE (defs₀ (F := F)) 𝒱₀ (c : Thread nD τ) none) Set.univ (k0_part5 (F := F) idsM h0 embM h1 outM h2 quantM h3 sendM h4 recvM h5 scaleM h6 rscaleM h7 cc0_scratch5 cc0_scratch6 cc0_scratch7 cc0_scratch8 c v2 v5 v9) Kt := by
  rw [k0_part5_eq_skeleton]
  unfold k0_part5_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, HX3, HD3, HtS3, #HrS3, HtR3, #HrR3, Hc2, Hat2, Hc7, Hat7, Hk⟩
  ihave HX3' := (owns_share (c : Thread nD τ) (sendC 3) (PosShare.mem_left_op_right fullShare) (sendV m c 3)).1 $$ [HX3]
  · iexact HX3
  icases HX3' with ⟨HL3, HX3⟩
  iapply (step_send m K c _ (dev6_eq c) 6 10 [] _ _ _ _ _ rfl rfl fullShare.left (sendV m c 3) (Entails.of_eq rfl) (Entails.of_eq (recvPay_peer m c 3)) rfl rfl) $$ [HL3 HD3 HO HtS3 HtR3]
  · isplitr; · iexact HI
    isplitl [HL3]; · iexact HL3
    isplitl [HD3]; · iexact HD3
    isplitl [HO]; · iexact HO
    isplitl [HtS3]; · iexact HtS3
    isplitr; · iexact HrS3
    isplitl [HtR3]; · iexact HtR3
    iexact HrR3
  iintro ⟨HC3, HO⟩
  unfold recvPay
  iapply (step_wait m K c 2 _ scaleM rscaleM _ rfl rfl) $$ [Hc2 HO Hat2]
  · isplitr; · iexact HI
    isplitl [Hc2]; · iexact Hc2
    isplitl [HO]; · iexact HO
    iexact Hat2
  iintro ⟨⟨%W', HO⟩, Hat2, HP2⟩
  ihave HP2 := (Entails.of_eq (pay_at2 m c)) $$ HP2
  iapply (step_loadIn c rscaleM _ fullShare _) $$ [HP2]
  · iexact HP2
  iintro HP2
  iapply (step_wait m K c 7 _ (sendC 0) (recvC 0) _ rfl rfl) $$ [Hc7 HO Hat7]
  · isplitr; · iexact HI
    isplitl [Hc7]; · iexact Hc7
    isplitl [HO]; · iexact HO
    iexact Hat7
  iintro ⟨⟨%W', HO⟩, Hat7, HP7⟩
  ihave HP7 := (Entails.of_eq (pay_at7 m c)) $$ HP7
  rw [wp_ret]; imodintro
  iapply Hk $$ [HO] [HC3] [HX3] [Hat2] [HP2] [Hat7] [HP7] []
  · iexists _; iexact HO
  · iexact HC3
  · iexact HX3
  · iexact Hat2
  · iexact HP2
  · iexact Hat7
  · iexact HP7
  · ipureintro; rfl

/-- The first and second chunks of the result. -/
theorem part6 (v2 v5 v9 : BitVec 32)
    (Kt : BitVec 32 → sProp 𝕄) :
    iprop(invs m K
        ∗ (∃ W, owes (c : Thread nD τ) (owe c []) W)
        ∗ owns (c : Thread nD τ) (sendC 0) fullShare.right (sendV m c 0)
        ∗ recvPay m c 0
        ∗ (∃ w, owns (c : Thread nD τ) (outC 0) fullShare w)
        ∗ owns (c : Thread nD τ) (sendC 1) fullShare.right (sendV m c 1)
        ∗ (∃ w, owns (c : Thread nD τ) (outC 1) fullShare w)
        ∗ cred (tallyAt (kcell (c, 8)) () (amt 8))
        ∗ atPos ER (kcell (c, 8)) 0 ∅ 0
        ∗ ((∃ W, owes (c : Thread nD τ) (owe c []) W) -∗ owns (c : Thread nD τ) (sendC 0) fullShare.right (sendV m c 0) -∗ recvPay m c 0 -∗ owns (c : Thread nD τ) (outC 0) fullShare (outV m c 0) -∗ owns (c : Thread nD τ) (sendC 1) fullShare.right (sendV m c 1) -∗ recvPay m c 1 -∗ owns (c : Thread nD τ) (outC 1) fullShare (outV m c 1) -∗ atPos ER (kcell (c, 8)) (0 + 1) ∅ 0 -∗ ∀ v, Kt v))
      ⊢ wp frame (wpE (defs₀ (F := F)) 𝒱₀ (c : Thread nD τ) none) Set.univ (k0_part6 (F := F) idsM h0 embM h1 outM h2 quantM h3 sendM h4 recvM h5 scaleM h6 rscaleM h7 cc0_scratch5 cc0_scratch6 cc0_scratch7 cc0_scratch8 v2 v5 v9 (scaleOf m c) (scaleOf m (peer c))) Kt := by
  rw [k0_part6_eq_skeleton]
  unfold k0_part6_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, HX0, HR0, ⟨%wz0, HZ0⟩, HX1, ⟨%wz1, HZ1⟩, Hc8, Hat8, Hk⟩
  unfold recvPay
  iapply (step_load c sendM _ (fun _ => rfl) fullShare.right _) $$ [HX0]
  · iexact HX0
  iintro HX0
  iapply (step_load c recvM _ (fun _ => rfl) fullShare _) $$ [HR0]
  · iexact HR0
  iintro HR0
  iapply (step_load c outM _ (fun _ => rfl) fullShare _) $$ [HZ0]
  · iexact HZ0
  iintro HZ0
  iapply (step_store c outM _ (fun _ => rfl) _) $$ [HZ0]
  · iexists _; iexact HZ0
  iintro HZ0
  iapply (step_wait m K c 8 _ (sendC 1) (recvC 1) _ rfl rfl) $$ [Hc8 HO Hat8]
  · isplitr; · iexact HI
    isplitl [Hc8]; · iexact Hc8
    isplitl [HO]; · iexact HO
    iexact Hat8
  iintro ⟨⟨%W', HO⟩, Hat8, HR1⟩
  ihave HR1 := (Entails.of_eq (pay_at8 m c)) $$ HR1
  iapply (step_load c sendM _ (fun _ => rfl) fullShare.right _) $$ [HX1]
  · iexact HX1
  iintro HX1
  iapply (step_load c recvM _ (fun _ => rfl) fullShare _) $$ [HR1]
  · iexact HR1
  iintro HR1
  iapply (step_load c outM _ (fun _ => rfl) fullShare _) $$ [HZ1]
  · iexact HZ1
  iintro HZ1
  iapply (step_store c outM _ (fun _ => rfl) _) $$ [HZ1]
  · iexists _; iexact HZ1
  iintro HZ1
  rw [wp_ret]; imodintro
  iapply Hk $$ [HO] [HX0] [HR0] [HZ0] [HX1] [HR1] [HZ1] [Hat8]
  · iexists _; iexact HO
  · iexact HX0
  · iexact HR0
  · iexact HZ0
  · iexact HX1
  · iexact HR1
  · iexact HZ1
  · iexact Hat8

/-- The third chunk of the result, the wait for the peer's fourth chunk. -/
theorem part7 (v2 v5 v9 v200 : BitVec 32)
    (Kt : FVec F S128x512 .f32 → sProp 𝕄) :
    iprop(invs m K
        ∗ (∃ W, owes (c : Thread nD τ) (owe c []) W)
        ∗ owns (c : Thread nD τ) (sendC 2) fullShare.right (sendV m c 2)
        ∗ (∃ w, owns (c : Thread nD τ) (outC 2) fullShare w)
        ∗ owns (c : Thread nD τ) (sendC 3) fullShare.right (sendV m c 3)
        ∗ cred (tallyAt (kcell (c, 9)) () (amt 9))
        ∗ atPos ER (kcell (c, 9)) 0 ∅ 0
        ∗ cred (tallyAt (kcell (c, 10)) () (amt 10))
        ∗ atPos ER (kcell (c, 10)) 0 ∅ 0
        ∗ ((∃ W, owes (c : Thread nD τ) (owe c []) W) -∗ owns (c : Thread nD τ) (sendC 2) fullShare.right (sendV m c 2) -∗ recvPay m c 2 -∗ owns (c : Thread nD τ) (outC 2) fullShare (outV m c 2) -∗ owns (c : Thread nD τ) (sendC 3) fullShare.right (sendV m c 3) -∗ recvPay m c 3 -∗ atPos ER (kcell (c, 9)) (0 + 1) ∅ 0 -∗ atPos ER (kcell (c, 10)) (0 + 1) ∅ 0 -∗ Kt (k0_pay14 (scaleOf m c) (sendV m c 3))))
      ⊢ wp frame (wpE (defs₀ (F := F)) 𝒱₀ (c : Thread nD τ) none) Set.univ (k0_part7 (F := F) idsM h0 embM h1 outM h2 quantM h3 sendM h4 recvM h5 scaleM h6 rscaleM h7 cc0_scratch5 cc0_scratch6 cc0_scratch7 cc0_scratch8 v2 v5 v9 (scaleOf m c) (scaleOf m (peer c)) v200) Kt := by
  rw [k0_part7_eq_skeleton]
  unfold k0_part7_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, HX2, ⟨%wz2, HZ2⟩, HX3, Hc9, Hat9, Hc10, Hat10, Hk⟩
  unfold recvPay
  iapply (step_wait m K c 9 _ (sendC 2) (recvC 2) _ rfl rfl) $$ [Hc9 HO Hat9]
  · isplitr; · iexact HI
    isplitl [Hc9]; · iexact Hc9
    isplitl [HO]; · iexact HO
    iexact Hat9
  iintro ⟨⟨%W', HO⟩, Hat9, HR2⟩
  ihave HR2 := (Entails.of_eq (pay_at9 m c)) $$ HR2
  iapply (step_load c sendM _ (fun _ => rfl) fullShare.right _) $$ [HX2]
  · iexact HX2
  iintro HX2
  iapply (step_load c recvM _ (fun _ => rfl) fullShare _) $$ [HR2]
  · iexact HR2
  iintro HR2
  iapply (step_load c outM _ (fun _ => rfl) fullShare _) $$ [HZ2]
  · iexact HZ2
  iintro HZ2
  iapply (step_store c outM _ (fun _ => rfl) _) $$ [HZ2]
  · iexists _; iexact HZ2
  iintro HZ2
  iapply (step_wait m K c 10 _ (sendC 3) (recvC 3) _ rfl rfl) $$ [Hc10 HO Hat10]
  · isplitr; · iexact HI
    isplitl [Hc10]; · iexact Hc10
    isplitl [HO]; · iexact HO
    iexact Hat10
  iintro ⟨⟨%W', HO⟩, Hat10, HR3⟩
  ihave HR3 := (Entails.of_eq (pay_at10 m c)) $$ HR3
  iapply (step_load c sendM _ (fun _ => rfl) fullShare.right _) $$ [HX3]
  · iexact HX3
  iintro HX3
  rw [wp_ret]; imodintro
  iapply Hk $$ [HO] [HX2] [HR2] [HZ2] [HX3] [HR3] [Hat9] [Hat10]
  · iexists _; iexact HO
  · iexact HX2
  · iexact HR2
  · iexact HZ2
  · iexact HX3
  · iexact HR3
  · iexact Hat9
  · iexact Hat10

/-- The fourth chunk of the result, the waits of the sends. -/
theorem part8
    (Kt : PUnit → sProp 𝕄) :
    iprop(invs m K
        ∗ (∃ W, owes (c : Thread nD τ) (owe c []) W)
        ∗ recvPay m c 3
        ∗ (∃ w, owns (c : Thread nD τ) (outC 3) fullShare w)
        ∗ cred (tallyAt (kcell (c, 1)) () (amt 1))
        ∗ cred (tallyAt (kcell (c, 3)) () (amt 3))
        ∗ cred (tallyAt (kcell (c, 4)) () (amt 4))
        ∗ cred (tallyAt (kcell (c, 5)) () (amt 5))
        ∗ cred (tallyAt (kcell (c, 6)) () (amt 6))
        ∗ atPos ER (kcell (c, 1)) 0 ∅ 0
        ∗ atPos ER (kcell (c, 3)) 0 ∅ 0
        ∗ atPos ER (kcell (c, 4)) 0 ∅ 0
        ∗ atPos ER (kcell (c, 5)) 0 ∅ 0
        ∗ atPos ER (kcell (c, 6)) 0 ∅ 0
        ∗ ((∃ W, owes (c : Thread nD τ) (owe c []) W) -∗ recvPay m c 3 -∗ owns (c : Thread nD τ) (outC 3) fullShare (outV m c 3) -∗ pay m 1 c -∗ pay m 3 c -∗ pay m 4 c -∗ pay m 5 c -∗ pay m 6 c -∗ atPos ER (kcell (c, 1)) (0 + 1) ∅ 0 -∗ atPos ER (kcell (c, 3)) (0 + 1) ∅ 0 -∗ atPos ER (kcell (c, 4)) (0 + 1) ∅ 0 -∗ atPos ER (kcell (c, 5)) (0 + 1) ∅ 0 -∗ atPos ER (kcell (c, 6)) (0 + 1) ∅ 0 -∗ Kt ⟨⟩))
      ⊢ wp frame (wpE (defs₀ (F := F)) 𝒱₀ (c : Thread nD τ) none) Set.univ (k0_part8 (F := F) idsM h0 embM h1 outM h2 quantM h3 sendM h4 recvM h5 scaleM h6 rscaleM h7 cc0_scratch5 cc0_scratch6 cc0_scratch7 cc0_scratch8 (scaleOf m (peer c)) (k0_pay14 (scaleOf m c) (sendV m c 3))) Kt := by
  rw [k0_part8_eq_skeleton]
  unfold k0_part8_skel
  simp only [semSignalWord, semWaitWord, Prog.lift, Prog.bind_op, Prog.bind_ret, Prog.pure_eq_ret, wp_deviceId]
  try simp only [sem_send0, sem_recv0, sem_send1, sem_recv1, sem_send2, sem_recv2, sem_send3, sem_recv3, sem_scaleSend, sem_scaleRecv]
  iintro ⟨#HI, ⟨%W, HO⟩, HR3, ⟨%wz3, HZ3⟩, Hc1, Hc3, Hc4, Hc5, Hc6, Hat1, Hat3, Hat4, Hat5, Hat6, Hk⟩
  unfold recvPay
  iapply (step_load c recvM _ (fun _ => rfl) fullShare _) $$ [HR3]
  · iexact HR3
  iintro HR3
  iapply (step_load c outM _ (fun _ => rfl) fullShare _) $$ [HZ3]
  · iexact HZ3
  iintro HZ3
  iapply (step_store c outM _ (fun _ => rfl) _) $$ [HZ3]
  · iexists _; iexact HZ3
  iintro HZ3
  iapply (step_wait m K c 1 _ rscaleM scaleM _ rfl rfl) $$ [Hc1 HO Hat1]
  · isplitr; · iexact HI
    isplitl [Hc1]; · iexact Hc1
    isplitl [HO]; · iexact HO
    iexact Hat1
  iintro ⟨⟨%W', HO⟩, Hat1, HP1⟩
  iapply (step_wait m K c 3 _ (recvC 0) (sendC 0) _ rfl rfl) $$ [Hc3 HO Hat3]
  · isplitr; · iexact HI
    isplitl [Hc3]; · iexact Hc3
    isplitl [HO]; · iexact HO
    iexact Hat3
  iintro ⟨⟨%W', HO⟩, Hat3, HP3⟩
  iapply (step_wait m K c 4 _ (recvC 1) (sendC 1) _ rfl rfl) $$ [Hc4 HO Hat4]
  · isplitr; · iexact HI
    isplitl [Hc4]; · iexact Hc4
    isplitl [HO]; · iexact HO
    iexact Hat4
  iintro ⟨⟨%W', HO⟩, Hat4, HP4⟩
  iapply (step_wait m K c 5 _ (recvC 2) (sendC 2) _ rfl rfl) $$ [Hc5 HO Hat5]
  · isplitr; · iexact HI
    isplitl [Hc5]; · iexact Hc5
    isplitl [HO]; · iexact HO
    iexact Hat5
  iintro ⟨⟨%W', HO⟩, Hat5, HP5⟩
  iapply (step_wait m K c 6 _ (recvC 3) (sendC 3) _ rfl rfl) $$ [Hc6 HO Hat6]
  · isplitr; · iexact HI
    isplitl [Hc6]; · iexact Hc6
    isplitl [HO]; · iexact HO
    iexact Hat6
  iintro ⟨⟨%W', HO⟩, Hat6, HP6⟩
  rw [wp_ret]; imodintro
  iapply Hk $$ [HO] [HR3] [HZ3] [HP1] [HP3] [HP4] [HP5] [HP6] [Hat1] [Hat3] [Hat4] [Hat5] [Hat6]
  · iexists _; iexact HO
  · iexact HR3
  · iexact HZ3
  · iexact HP1
  · iexact HP3
  · iexact HP4
  · iexact HP5
  · iexact HP6
  · iexact Hat1
  · iexact Hat3
  · iexact Hat4
  · iexact Hat5
  · iexact Hat6

/-- What a device gives its neighbour with the barrier signal: the right to write its receive buffers. -/
theorem barPay_intro :
    iprop((∃ w, owns (c : Thread nD τ) rscaleM fullShare w)
    ∗ (∃ w, owns (c : Thread nD τ) (recvC 0) fullShare w) ∗ (∃ w, owns (c : Thread nD τ) (recvC 1) fullShare w)
    ∗ (∃ w, owns (c : Thread nD τ) (recvC 2) fullShare w) ∗ (∃ w, owns (c : Thread nD τ) (recvC 3) fullShare w)
    ∗ reached ER (kcell (c, 2)) 0 ∗ reached ER (kcell (c, 7)) 0 ∗ reached ER (kcell (c, 8)) 0
    ∗ reached ER (kcell (c, 9)) 0 ∗ reached ER (kcell (c, 10)) 0) ⊢ (barPay (peer c) : sProp 𝕄) := by
  unfold barPay; rw [peer_peer]

/-- The two shares of a sent chunk make the whole of it. -/
theorem send_join (k : Fin 4) :
    iprop(sendPay m c k ∗ owns (c : Thread nD τ) (sendC k) fullShare.right (sendV m c k))
      ⊢ (∃ w, owns (c : Thread nD τ) (sendC k) fullShare w : sProp 𝕄) := by
  unfold sendPay
  iintro H
  iexists (sendV m c k)
  iapply (owns_share (c : Thread nD τ) (sendC k) (PosShare.mem_left_op_right fullShare) (sendV m c k)).2
  iexact H

/-- What the body needs: the open semaphores, the tokens it pays with, the credit it waits with, and its buffers. -/
def bodyPre : sProp 𝕄 :=
  iprop(invs m K
    ∗ levAts L lv
    ∗ (∃ W, owes (c : Thread nD τ) (owe c [0, 2, 7, 8, 9, 10]) W)
    ∗ reached ER (kcell (peer c, 0)) 0
    ∗ reached ER (kcell (c, 1)) 0
    ∗ reached ER (kcell (c, 2)) 0
    ∗ reached ER (kcell (c, 3)) 0
    ∗ reached ER (kcell (c, 4)) 0
    ∗ reached ER (kcell (c, 5)) 0
    ∗ reached ER (kcell (c, 6)) 0
    ∗ reached ER (kcell (c, 7)) 0
    ∗ reached ER (kcell (c, 8)) 0
    ∗ reached ER (kcell (c, 9)) 0
    ∗ reached ER (kcell (c, 10)) 0
    ∗ dutyTok ER (kcell (peer c, 0)) 0 ()
    ∗ dutyTok ER (kcell (peer c, 2)) 0 ()
    ∗ dutyTok ER (kcell (peer c, 7)) 0 ()
    ∗ dutyTok ER (kcell (peer c, 8)) 0 ()
    ∗ dutyTok ER (kcell (peer c, 9)) 0 ()
    ∗ dutyTok ER (kcell (peer c, 10)) 0 ()
    ∗ dutyTok ER (kcell (c, 1)) 0 ()
    ∗ dutyTok ER (kcell (c, 3)) 0 ()
    ∗ dutyTok ER (kcell (c, 4)) 0 ()
    ∗ dutyTok ER (kcell (c, 5)) 0 ()
    ∗ dutyTok ER (kcell (c, 6)) 0 ()
    ∗ atPos ER (kcell (c, 0)) 0 ∅ 0
    ∗ atPos ER (kcell (c, 1)) 0 ∅ 0
    ∗ atPos ER (kcell (c, 2)) 0 ∅ 0
    ∗ atPos ER (kcell (c, 3)) 0 ∅ 0
    ∗ atPos ER (kcell (c, 4)) 0 ∅ 0
    ∗ atPos ER (kcell (c, 5)) 0 ∅ 0
    ∗ atPos ER (kcell (c, 6)) 0 ∅ 0
    ∗ atPos ER (kcell (c, 7)) 0 ∅ 0
    ∗ atPos ER (kcell (c, 8)) 0 ∅ 0
    ∗ atPos ER (kcell (c, 9)) 0 ∅ 0
    ∗ atPos ER (kcell (c, 10)) 0 ∅ 0
    ∗ cred (tallyAt (kcell (c, 0)) () (amt 0))
    ∗ cred (tallyAt (kcell (c, 2)) () (amt 2))
    ∗ cred (tallyAt (kcell (c, 7)) () (amt 7))
    ∗ cred (tallyAt (kcell (c, 8)) () (amt 8))
    ∗ cred (tallyAt (kcell (c, 9)) () (amt 9))
    ∗ cred (tallyAt (kcell (c, 10)) () (amt 10))
    ∗ owns (c : Thread nD τ) idsM fullShare (idsAt m c)
    ∗ owns (c : Thread nD τ) embM fullShare (embAt m c)
    ∗ (∃ w, owns (c : Thread nD τ) quantM fullShare w)
    ∗ (∃ w, owns (c : Thread nD τ) scaleM fullShare w)
    ∗ (∃ w, owns (c : Thread nD τ) rscaleM fullShare w)
    ∗ (∃ w, owns (c : Thread nD τ) (sendC 0) fullShare w)
    ∗ (∃ w, owns (c : Thread nD τ) (sendC 1) fullShare w)
    ∗ (∃ w, owns (c : Thread nD τ) (sendC 2) fullShare w)
    ∗ (∃ w, owns (c : Thread nD τ) (sendC 3) fullShare w)
    ∗ (∃ w, owns (c : Thread nD τ) (recvC 0) fullShare w)
    ∗ (∃ w, owns (c : Thread nD τ) (recvC 1) fullShare w)
    ∗ (∃ w, owns (c : Thread nD τ) (recvC 2) fullShare w)
    ∗ (∃ w, owns (c : Thread nD τ) (recvC 3) fullShare w)
    ∗ (∃ w, owns (c : Thread nD τ) (outC 0) fullShare w)
    ∗ (∃ w, owns (c : Thread nD τ) (outC 1) fullShare w)
    ∗ (∃ w, owns (c : Thread nD τ) (outC 2) fullShare w)
    ∗ (∃ w, owns (c : Thread nD τ) (outC 3) fullShare w))

/-- What the body leaves: nothing owed, every semaphore's round over, the buffers back, the result written. -/
def bodyPost : sProp 𝕄 :=
  iprop((∃ W, owes (c : Thread nD τ) (owe c []) W)
    ∗ atPos ER (kcell (c, 0)) (0 + 1) ∅ 0
    ∗ atPos ER (kcell (c, 1)) (0 + 1) ∅ 0
    ∗ atPos ER (kcell (c, 2)) (0 + 1) ∅ 0
    ∗ atPos ER (kcell (c, 3)) (0 + 1) ∅ 0
    ∗ atPos ER (kcell (c, 4)) (0 + 1) ∅ 0
    ∗ atPos ER (kcell (c, 5)) (0 + 1) ∅ 0
    ∗ atPos ER (kcell (c, 6)) (0 + 1) ∅ 0
    ∗ atPos ER (kcell (c, 7)) (0 + 1) ∅ 0
    ∗ atPos ER (kcell (c, 8)) (0 + 1) ∅ 0
    ∗ atPos ER (kcell (c, 9)) (0 + 1) ∅ 0
    ∗ atPos ER (kcell (c, 10)) (0 + 1) ∅ 0
    ∗ owns (c : Thread nD τ) idsM fullShare (idsAt m c)
    ∗ owns (c : Thread nD τ) embM fullShare (embAt m c)
    ∗ (∃ w, owns (c : Thread nD τ) quantM fullShare w)
    ∗ (∃ w, owns (c : Thread nD τ) scaleM fullShare w)
    ∗ (∃ w, owns (c : Thread nD τ) rscaleM fullShare w)
    ∗ (∃ w, owns (c : Thread nD τ) (sendC 0) fullShare w)
    ∗ (∃ w, owns (c : Thread nD τ) (sendC 1) fullShare w)
    ∗ (∃ w, owns (c : Thread nD τ) (sendC 2) fullShare w)
    ∗ (∃ w, owns (c : Thread nD τ) (sendC 3) fullShare w)
    ∗ (∃ w, owns (c : Thread nD τ) (recvC 0) fullShare w)
    ∗ (∃ w, owns (c : Thread nD τ) (recvC 1) fullShare w)
    ∗ (∃ w, owns (c : Thread nD τ) (recvC 2) fullShare w)
    ∗ (∃ w, owns (c : Thread nD τ) (recvC 3) fullShare w)
    ∗ owns (c : Thread nD τ) (outC 0) fullShare (outV m c 0)
    ∗ owns (c : Thread nD τ) (outC 1) fullShare (outV m c 1)
    ∗ owns (c : Thread nD τ) (outC 2) fullShare (outV m c 2)
    ∗ owns (c : Thread nD τ) (outC 3) fullShare (outV m c 3))

/-- The whole body. -/
theorem body_run (Kt : PUnit → sProp 𝕄) :
    iprop(bodyPre m K c ∗ (bodyPost m c -∗ Kt ⟨⟩))
      ⊢ wp frame (wpE (defs₀ (F := F)) 𝒱₀ (c : Thread nD τ) none) Set.univ (cc0_body (F := F) idsM h0 embM h1 outM h2 quantM h3 sendM h4 recvM h5 scaleM h6 rscaleM h7 cc0_scratch5 cc0_scratch6 cc0_scratch7 cc0_scratch8) Kt := by
  rw [cc0_body_eq_skeleton]
  unfold cc0_body_skel
  simp only [wp_bind]
  unfold bodyPre
  iintro ⟨⟨#HI, #Hlev, HO, #HrB, #Hr1, #Hr2, #Hr3, #Hr4, #Hr5, #Hr6, #Hr7, #Hr8, #Hr9, #Hr10, Ht0, Ht2, Ht7, Ht8, Ht9, Ht10, Ht1, Ht3, Ht4, Ht5, Ht6, Hat0, Hat1, Hat2, Hat3, Hat4, Hat5, Hat6, Hat7, Hat8, Hat9, Hat10, Hc0, Hc2, Hc7, Hc8, Hc9, Hc10, HI0, HE, HQ, HS, HRS, HX0, HX1, HX2, HX3, HR0, HR1, HR2, HR3, HZ0, HZ1, HZ2, HZ3⟩, Hk⟩
  ihave Hbp := (barPay_intro c) $$ [HRS HR0 HR1 HR2 HR3]
  · isplitl [HRS]; · iexact HRS
    isplitl [HR0]; · iexact HR0
    isplitl [HR1]; · iexact HR1
    isplitl [HR2]; · iexact HR2
    isplitl [HR3]; · iexact HR3
    isplitr; · iexact Hr2
    isplitr; · iexact Hr7
    isplitr; · iexact Hr8
    isplitr; · iexact Hr9
    iexact Hr10
  iapply (part1 m K c h0 h1 h2 h3 h4 h5 h6 h7)
  isplitr; · iexact HI
  isplitl [HO]; · iexact HO
  isplitl [Ht0]; · iexact Ht0
  isplitr; · iexact HrB
  isplitl [Hbp]; · iexact Hbp
  isplitl [HE]; · iexact HE
  isplitl [HQ]; · iexact HQ
  iintro HO HE HQ %v2 %v5 %v9
  dsimp only
  iapply (part2 m K c h0 h1 h2 h3 h4 h5 h6 h7 v2 v5 v9)
  isplitr; · iexact HI
  isplitr; · iexact Hlev
  isplitl [HO]; · iexact HO
  isplitl [Hc0]; · iexact Hc0
  isplitl [Hat0]; · iexact Hat0
  isplitl [HS]; · iexact HS
  isplitl [Ht1]; · iexact Ht1
  isplitr; · iexact Hr1
  isplitl [Ht2]; · iexact Ht2
  isplitl [HI0]; · iexact HI0
  isplitl [HQ]; · iexact HQ
  isplitl [HX0]; · iexact HX0
  iintro HO Hat0 Hc1 HD0 HD1 HD2 HD3 #Hp7 #Hp8 #Hp9 #Hp10 HI0 HQ HX0
  dsimp only
  iapply (part3 m K c h0 h1 h2 h3 h4 h5 h6 h7 v2 v5 v9)
  isplitr; · iexact HI
  isplitl [HO]; · iexact HO
  isplitl [HX0]; · iexact HX0
  isplitl [HD0]; · iexact HD0
  isplitl [Ht3]; · iexact Ht3
  isplitr; · iexact Hr3
  isplitl [Ht7]; · iexact Ht7
  isplitr; · iexact Hp7
  isplitl [HI0]; · iexact HI0
  isplitl [HQ]; · iexact HQ
  isplitl [HX1]; · iexact HX1
  isplitl [HD1]; · iexact HD1
  isplitl [Ht4]; · iexact Ht4
  isplitr; · iexact Hr4
  isplitl [Ht8]; · iexact Ht8
  isplitr; · iexact Hp8
  iintro HO Hc3 HX0 Hc4 HX1 HI0 HQ %v103 %hv103
  subst hv103
  iapply (part4 m K c h0 h1 h2 h3 h4 h5 h6 h7 v2 v5 v9)
  isplitr; · iexact HI
  isplitl [HO]; · iexact HO
  isplitl [HX2]; · iexact HX2
  isplitl [HD2]; · iexact HD2
  isplitl [Ht5]; · iexact Ht5
  isplitr; · iexact Hr5
  isplitl [Ht9]; · iexact Ht9
  isplitr; · iexact Hp9
  isplitl [HI0]; · iexact HI0
  isplitl [HQ]; · iexact HQ
  isplitl [HX3]; · iexact HX3
  iintro HO Hc5 HX2 HX3 HI0 HQ
  iapply (part5 m K c h0 h1 h2 h3 h4 h5 h6 h7 v2 v5 v9)
  isplitr; · iexact HI
  isplitl [HO]; · iexact HO
  isplitl [HX3]; · iexact HX3
  isplitl [HD3]; · iexact HD3
  isplitl [Ht6]; · iexact Ht6
  isplitr; · iexact Hr6
  isplitl [Ht10]; · iexact Ht10
  isplitr; · iexact Hp10
  isplitl [Hc2]; · iexact Hc2
  isplitl [Hat2]; · iexact Hat2
  isplitl [Hc7]; · iexact Hc7
  isplitl [Hat7]; · iexact Hat7
  iintro HO Hc6 HX3 Hat2 HRS Hat7 HR0 %v158 %hv158
  subst hv158
  iapply (part6 m K c h0 h1 h2 h3 h4 h5 h6 h7 v2 v5 v9)
  isplitr; · iexact HI
  isplitl [HO]; · iexact HO
  isplitl [HX0]; · iexact HX0
  isplitl [HR0]; · iexact HR0
  isplitl [HZ0]; · iexact HZ0
  isplitl [HX1]; · iexact HX1
  isplitl [HZ1]; · iexact HZ1
  isplitl [Hc8]; · iexact Hc8
  isplitl [Hat8]; · iexact Hat8
  iintro HO HX0 HR0 HZ0 HX1 HR1 HZ1 Hat8 %v200
  iapply (part7 m K c h0 h1 h2 h3 h4 h5 h6 h7 v2 v5 v9 v200)
  isplitr; · iexact HI
  isplitl [HO]; · iexact HO
  isplitl [HX2]; · iexact HX2
  isplitl [HZ2]; · iexact HZ2
  isplitl [HX3]; · iexact HX3
  isplitl [Hc9]; · iexact Hc9
  isplitl [Hat9]; · iexact Hat9
  isplitl [Hc10]; · iexact Hc10
  isplitl [Hat10]; · iexact Hat10
  iintro HO HX2 HR2 HZ2 HX3 HR3 Hat9 Hat10
  iapply (part8 m K c h0 h1 h2 h3 h4 h5 h6 h7)
  isplitr; · iexact HI
  isplitl [HO]; · iexact HO
  isplitl [HR3]; · iexact HR3
  isplitl [HZ3]; · iexact HZ3
  isplitl [Hc1]; · iexact Hc1
  isplitl [Hc3]; · iexact Hc3
  isplitl [Hc4]; · iexact Hc4
  isplitl [Hc5]; · iexact Hc5
  isplitl [Hc6]; · iexact Hc6
  isplitl [Hat1]; · iexact Hat1
  isplitl [Hat3]; · iexact Hat3
  isplitl [Hat4]; · iexact Hat4
  isplitl [Hat5]; · iexact Hat5
  isplitl [Hat6]; · iexact Hat6
  iintro HO HR3 HZ3 HS HL0 HL1 HL2 HL3 Hat1 Hat3 Hat4 Hat5 Hat6
  ihave HL0 := (Entails.of_eq (pay_at3 m c)) $$ HL0
  ihave HX0 := (send_join m c 0) $$ [HL0 HX0]
  · isplitl [HL0]; · iexact HL0
    iexact HX0
  ihave HL1 := (Entails.of_eq (pay_at4 m c)) $$ HL1
  ihave HX1 := (send_join m c 1) $$ [HL1 HX1]
  · isplitl [HL1]; · iexact HL1
    iexact HX1
  ihave HL2 := (Entails.of_eq (pay_at5 m c)) $$ HL2
  ihave HX2 := (send_join m c 2) $$ [HL2 HX2]
  · isplitl [HL2]; · iexact HL2
    iexact HX2
  ihave HL3 := (Entails.of_eq (pay_at6 m c)) $$ HL3
  ihave HX3 := (send_join m c 3) $$ [HL3 HX3]
  · isplitl [HL3]; · iexact HL3
    iexact HX3
  simp only [Prog.pure_eq_ret]
  rw [wp_ret]; imodintro
  ihave HS := (Entails.of_eq (pay_at1 m c)) $$ HS
  iapply Hk
  unfold bodyPost recvPay
  isplitl [HO]; · iexact HO
  isplitl [Hat0]; · iexact Hat0
  isplitl [Hat1]; · iexact Hat1
  isplitl [Hat2]; · iexact Hat2
  isplitl [Hat3]; · iexact Hat3
  isplitl [Hat4]; · iexact Hat4
  isplitl [Hat5]; · iexact Hat5
  isplitl [Hat6]; · iexact Hat6
  isplitl [Hat7]; · iexact Hat7
  isplitl [Hat8]; · iexact Hat8
  isplitl [Hat9]; · iexact Hat9
  isplitl [Hat10]; · iexact Hat10
  isplitl [HI0]; · iexact HI0
  isplitl [HE]; · iexact HE
  isplitl [HQ]; · iexists _; iexact HQ
  isplitl [HS]; · iexists _; iexact HS
  isplitl [HRS]; · iexists _; iexact HRS
  isplitl [HX0]; · iexact HX0
  isplitl [HX1]; · iexact HX1
  isplitl [HX2]; · iexact HX2
  isplitl [HX3]; · iexact HX3
  isplitl [HR0]; · iexists _; iexact HR0
  isplitl [HR1]; · iexists _; iexact HR1
  isplitl [HR2]; · iexists _; iexact HR2
  isplitl [HR3]; · iexists _; iexact HR3
  isplitl [HZ0]; · iexact HZ0
  isplitl [HZ1]; · iexact HZ1
  isplitl [HZ2]; · iexact HZ2
  iexact HZ3

end Cert.Lookup
-- ==== Proof.Region.lean ====
/-
  The kernel's region: what enters it and leaves it, its semaphores opened at its entry and closed at its end, its buffers
  cut into the body's chunks and put together again, and the record the launch takes.
-/
module

public import proofs.«01_k».proof.Proof.Body
public import Idealize.ShloMosaic.Harness.Basic

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A 512 x 512 buffer and its four chunks of rows -/

/-- Different chunks share no row. -/
theorem rows_disjoint (k l : Fin 4) (h : k ≠ l) : Disjoint (rows k).set (rows l).set := by
  rw [Finset.disjoint_left]
  intro i hk hl
  have h1 := (Rect.mem_set_unit.mp hk) 0
  have h2 := (Rect.mem_set_unit.mp hl) 0
  have h1' : 128 * k.val ≤ (i 0).val ∧ (i 0).val < 128 * k.val + 128 := h1
  have h2' : 128 * l.val ≤ (i 0).val ∧ (i 0).val < 128 * l.val + 128 := h2
  exact h (Fin.ext (by omega))

/-- The four chunks cover all rows. -/
theorem rows_cover : (Finset.univ : Finset (Fin 4)).biUnion (fun k => (rows k).set) = Finset.univ := by
  refine Finset.eq_univ_iff_forall.mpr fun i => Finset.mem_biUnion.mpr ?_
  have h0 : (i 0).val < 512 := (i 0).isLt
  have h1 : (i 1).val < 512 := (i 1).isLt
  refine ⟨⟨(i 0).val / 128, by omega⟩, Finset.mem_univ _, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 512
    omega

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A buffer at some contents is its four chunks at some contents. -/
theorem split_rows {e : EltTy} (M : Memref sig .tc .vmem S512x512 e) (c : Dev nD) :
    (iprop(∃ X, owns (c : Thread nD τ) M fullShare X) : sProp 𝕄)
      ⊢ iprop((∃ w, owns (c : Thread nD τ) (M.slice (rows 0) (fun _ => rfl)) fullShare w)
        ∗ (∃ w, owns (c : Thread nD τ) (M.slice (rows 1) (fun _ => rfl)) fullShare w)
        ∗ (∃ w, owns (c : Thread nD τ) (M.slice (rows 2) (fun _ => rfl)) fullShare w)
        ∗ (∃ w, owns (c : Thread nD τ) (M.slice (rows 3) (fun _ => rfl)) fullShare w)) := by
  iintro ⟨%X, H⟩
  ihave H := (owns_rects (c : Thread nD τ) M fullShare rows (fun _ _ => rfl) rows_disjoint rows_cover X) $$ H
  ihave H := (Entails.of_eq (bigSep_four _)) $$ H
  icases H with ⟨H0, H1, H2, H3⟩
  isplitl [H0]; · iexists _; iexact H0
  isplitl [H1]; · iexists _; iexact H1
  isplitl [H2]; · iexists _; iexact H2
  iexists _; iexact H3

/-- Four chunks at given contents are the buffer at the glued contents. -/
theorem join_rows {e : EltTy} (M : Memref sig .tc .vmem S512x512 e) (c : Dev nD) (w : Fin 4 → Vec F S128x512 e) :
    (iprop(owns (c : Thread nD τ) (M.slice (rows 0) (fun _ => rfl)) fullShare (w 0)
        ∗ owns (c : Thread nD τ) (M.slice (rows 1) (fun _ => rfl)) fullShare (w 1)
        ∗ owns (c : Thread nD τ) (M.slice (rows 2) (fun _ => rfl)) fullShare (w 2)
        ∗ owns (c : Thread nD τ) (M.slice (rows 3) (fun _ => rfl)) fullShare (w 3)) : sProp 𝕄)
      ⊢ owns (c : Thread nD τ) M fullShare (glue w) := by
  refine BIBase.Entails.trans ?_ (owns_of_rects (c : Thread nD τ) M fullShare rows (fun _ _ => rfl) rows_disjoint rows_cover (glue w))
  rw [bigSep_four]
  have h (k : Fin 4) : (fun j => glue w ((rows k).emb j)) = w k := funext fun j => glue_rows w k j
  simp only [h]
  iintro H; iexact H

/-- Four chunks at some contents are the buffer at some contents. -/
theorem join_rows_some {e : EltTy} (M : Memref sig .tc .vmem S512x512 e) (c : Dev nD) :
    (iprop((∃ w, owns (c : Thread nD τ) (M.slice (rows 0) (fun _ => rfl)) fullShare w)
        ∗ (∃ w, owns (c : Thread nD τ) (M.slice (rows 1) (fun _ => rfl)) fullShare w)
        ∗ (∃ w, owns (c : Thread nD τ) (M.slice (rows 2) (fun _ => rfl)) fullShare w)
        ∗ (∃ w, owns (c : Thread nD τ) (M.slice (rows 3) (fun _ => rfl)) fullShare w)) : sProp 𝕄)
      ⊢ iprop(∃ X, owns (c : Thread nD τ) M fullShare X) := by
  iintro ⟨⟨%w0, H0⟩, ⟨%w1, H1⟩, ⟨%w2, H2⟩, ⟨%w3, H3⟩⟩
  iexists (glue (fun | 0 => w0 | 1 => w1 | 2 => w2 | 3 => w3))
  iapply (join_rows M c (fun | 0 => w0 | 1 => w1 | 2 => w2 | 3 => w3))
  isplitl [H0]; · iexact H0
  isplitl [H1]; · iexact H1
  isplitl [H2]; · iexact H2
  iexact H3

/-- A whole buffer at some contents, through its points-to or through its memref. -/
theorem whole_some (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  congr 1
  funext f
  exact (owns_whole (c : Thread nD τ) b fullShare f).symm

/-! ## The semaphores of the region -/

/-- The kernel's own ten semaphores: all but the barrier. -/
def osem (k : Fin 10) : SemLoc sig := csem k.succ

theorem osem_facts : Pipeline.OwnSemFacts spec0 osem := by decide

/-- Who pays the one unit of use of semaphore `k` of device `payer k c`'s: device `c`. -/
def payer : Fin 11 → Dev nD → Dev nD := fun
  | 1 => id | 3 => id | 4 => id | 5 => id | 6 => id | _ => peer

/-- The right to pay each of the semaphores that device `c` pays. -/
def toksOf (c : Dev nD) : sProp 𝕄 := bigSep Finset.univ fun k : Fin 11 => dutyTok ER (kcell (payer k c, k)) 0 ()

/-- The credit for what the peer owes device `c`. -/
def credsOf (c : Dev nD) : sProp 𝕄 :=
  bigSep ({0, 2, 7, 8, 9, 10} : Finset (Fin 11)) fun k => cred (tallyAt (kcell (c, k)) () (amt k))

theorem bigSep_eleven (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_ten (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem toksOf_eq (c : Dev nD) : (toksOf c : sProp 𝕄) = iprop(dutyTok ER (kcell (peer c, 0)) 0 ()
    ∗ dutyTok ER (kcell (c, 1)) 0 ()
    ∗ dutyTok ER (kcell (peer c, 2)) 0 ()
    ∗ dutyTok ER (kcell (c, 3)) 0 ()
    ∗ dutyTok ER (kcell (c, 4)) 0 ()
    ∗ dutyTok ER (kcell (c, 5)) 0 ()
    ∗ dutyTok ER (kcell (c, 6)) 0 ()
    ∗ dutyTok ER (kcell (peer c, 7)) 0 ()
    ∗ dutyTok ER (kcell (peer c, 8)) 0 ()
    ∗ dutyTok ER (kcell (peer c, 9)) 0 ()
    ∗ dutyTok ER (kcell (peer c, 10)) 0 ()) := by
  unfold toksOf; rw [bigSep_eleven]; rfl

theorem credsOf_eq (c : Dev nD) : (credsOf c : sProp 𝕄) = iprop(cred (tallyAt (kcell (c, 0)) () (amt 0))
    ∗ cred (tallyAt (kcell (c, 2)) () (amt 2))
    ∗ cred (tallyAt (kcell (c, 7)) () (amt 7))
    ∗ cred (tallyAt (kcell (c, 8)) () (amt 8))
    ∗ cred (tallyAt (kcell (c, 9)) () (amt 9))
    ∗ cred (tallyAt (kcell (c, 10)) () (amt 10))) := by
  unfold credsOf; rw [bigSep_eq_bigSepL_of_eq [0, 2, 7, 8, 9, 10] (by decide) (by decide)]; rfl

theorem open_eq (c : Dev nD) : (bigSep Finset.univ (fun k : Fin 10 => iprop(atPos ER (kcell (c, k.succ)) 0 ∅ 0 ∗ reached ER (kcell (c, k.succ)) 0)) : sProp 𝕄)
    = iprop((atPos ER (kcell (c, 1)) 0 ∅ 0 ∗ reached ER (kcell (c, 1)) 0)
    ∗ (atPos ER (kcell (c, 2)) 0 ∅ 0 ∗ reached ER (kcell (c, 2)) 0)
    ∗ (atPos ER (kcell (c, 3)) 0 ∅ 0 ∗ reached ER (kcell (c, 3)) 0)
    ∗ (atPos ER (kcell (c, 4)) 0 ∅ 0 ∗ reached ER (kcell (c, 4)) 0)
    ∗ (atPos ER (kcell (c, 5)) 0 ∅ 0 ∗ reached ER (kcell (c, 5)) 0)
    ∗ (atPos ER (kcell (c, 6)) 0 ∅ 0 ∗ reached ER (kcell (c, 6)) 0)
    ∗ (atPos ER (kcell (c, 7)) 0 ∅ 0 ∗ reached ER (kcell (c, 7)) 0)
    ∗ (atPos ER (kcell (c, 8)) 0 ∅ 0 ∗ reached ER (kcell (c, 8)) 0)
    ∗ (atPos ER (kcell (c, 9)) 0 ∅ 0 ∗ reached ER (kcell (c, 9)) 0)
    ∗ (atPos ER (kcell (c, 10)) 0 ∅ 0 ∗ reached ER (kcell (c, 10)) 0)) := by
  rw [bigSep_ten]; rfl

theorem ats_eq (c : Dev nD) (r : ℕ) : (bigSep Finset.univ (fun k : Fin 11 => atPos ER (kcell (c, k)) r ∅ 0) : sProp 𝕄)
    = iprop(atPos ER (kcell (c, 0)) r ∅ 0
    ∗ atPos ER (kcell (c, 1)) r ∅ 0
    ∗ atPos ER (kcell (c, 2)) r ∅ 0
    ∗ atPos ER (kcell (c, 3)) r ∅ 0
    ∗ atPos ER (kcell (c, 4)) r ∅ 0
    ∗ atPos ER (kcell (c, 5)) r ∅ 0
    ∗ atPos ER (kcell (c, 6)) r ∅ 0
    ∗ atPos ER (kcell (c, 7)) r ∅ 0
    ∗ atPos ER (kcell (c, 8)) r ∅ 0
    ∗ atPos ER (kcell (c, 9)) r ∅ 0
    ∗ atPos ER (kcell (c, 10)) r ∅ 0) := bigSep_eleven _

theorem sems_eq (c : Dev nD) : (bigSep Finset.univ (fun k : Fin 11 => semVal (kcell (c, k)) 0) : sProp 𝕄)
    = iprop(semVal (kcell (c, 0)) 0 ∗ Pipeline.ownSems0 osem c) := by
  unfold Pipeline.ownSems0; rw [bigSep_eleven, bigSep_ten]; rfl

/-- The region's entry: the ten semaphores, at zero, are opened. -/
theorem open_all (K : GSem nD τ sig → ℕ) (c : Dev nD) :
    iprop(invs m K ∗ (bigSep Finset.univ (fun k : Fin 10 => openTok ER (kcell (c, k.succ))) ∗ Pipeline.ownSems0 osem c))
      ⊢ (|={Set.univ}=> bigSep Finset.univ (fun k : Fin 10 => iprop(atPos ER (kcell (c, k.succ)) 0 ∅ 0 ∗ reached ER (kcell (c, k.succ)) 0)) : sProp 𝕄) := by
  refine BIBase.Entails.trans ?_ (BI.bigSep_fupd _ _)
  iintro ⟨#HI, Ho, Hs⟩
  unfold Pipeline.ownSems0
  iapply (bigSep_with_persistent (R := invs m K) (Φ := fun k : Fin 10 => iprop(openTok ER (kcell (c, k.succ)) ∗ semVal (kcell (c, k.succ)) 0))
    fun k _ => (by
      iintro ⟨#HI, Ho, Hs⟩
      iapply (Rounds.cell_open ER (sched m) (g := kcell (c, k.succ)) (Set.mem_univ (K (kcell (c, k.succ)))))
      isplitr; · iapply (invs_at m K (c, k.succ)); iexact HI
      isplitl [Ho]; · iexact Ho
      iexact Hs))
  isplitr; · iexact HI
  iapply Idealize.ShloMosaic.Smoke.bigSep_pair
  isplitl [Ho]; · iexact Ho
  iexact Hs

/-- The region's end: all eleven are closed, each at zero. -/
theorem close_all (K : GSem nD τ sig → ℕ) (c : Dev nD) :
    iprop(invs m K ∗ bigSep Finset.univ (fun k : Fin 11 => atPos ER (kcell (c, k)) (0 + 1) ∅ 0))
      ⊢ (|={Set.univ}=> bigSep Finset.univ (fun k : Fin 11 => semVal (kcell (c, k)) 0) : sProp 𝕄) := by
  refine BIBase.Entails.trans ?_ (BI.bigSep_fupd _ _)
  exact bigSep_with_persistent (R := invs m K) (Φ := fun k : Fin 11 => (atPos ER (kcell (c, k)) (0 + 1) ∅ 0 : sProp 𝕄))
    fun k _ => (by
      iintro ⟨#HI, Ha⟩
      iapply (Rounds.cell_close ER (sched m) (Set.mem_univ (K (kcell (c, k)))) (fun h => h) (R := 0 + 1) (duties_later m (kcell (c, k))))
      isplitr; · iapply (invs_at m K (c, k)); iexact HI
      iexact Ha)

/-! ## The region's proof data -/

/-- What the launch deals device `c` for the region. -/
def Tk (c : Dev nD) : sProp 𝕄 :=
  iprop((∃ K, invs m K ∗ reached ER (kcell (peer c, 0)) 0 ∗ atPos ER (kcell (c, 0)) 0 ∅ 0
      ∗ bigSep Finset.univ (fun k : Fin 10 => openTok ER (kcell (c, k.succ))) ∗ toksOf c) ∗ credsOf c)
/-- The same with the semaphores opened. -/
def Xk (c : Dev nD) : sProp 𝕄 :=
  iprop((∃ K, invs m K ∗ reached ER (kcell (peer c, 0)) 0 ∗ atPos ER (kcell (c, 0)) 0 ∅ 0
      ∗ bigSep Finset.univ (fun k : Fin 10 => iprop(atPos ER (kcell (c, k.succ)) 0 ∅ 0 ∗ reached ER (kcell (c, k.succ)) 0)) ∗ toksOf c)
    ∗ credsOf c ∗ levAts L lv)
/-- What the region leaves of the barrier. -/
def Yk (c : Dev nD) : sProp 𝕄 := semVal (kcell (c, 0)) 0

/-- What a device holds before the body, and after it. -/
def Φ₀ (c : Dev nD) : sProp 𝕄 := iprop(Xk m c ∗ Pipeline.scopedRest spec0 c ∗ ∃ r, prngReg c r)
def Φ₁ (c : Dev nD) : sProp 𝕄 := iprop((Yk c ∗ Pipeline.ownSems0 osem c) ∗ Pipeline.scopedRest spec0 c ∗ ∃ r, prngReg c r)

/-- The region's data: the arrays as the region finds them, what the body leaves in each window, and what is owed. -/
def dat (c : Dev nD) : Dat τ (Elt F) Unit ℕ UU ℕ cfg0 c where
  A w := V m c (Pipeline.arrRef spec0 w)
  after w _ := match w with
    | ⟨0, _⟩ => idsAt m c
    | ⟨1, _⟩ => embAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m

/-- The first argument of the body holds the ids, the second the table half. -/
theorem before_0 (c : Dev nD) (d) : (dat m c).before (0 : Fin 3) t0_0 d = idsAt m c := by
  unfold Dat.before; rw [if_pos (fetch0_0 t0_0)]; rfl
theorem before_1 (c : Dev nD) (d) : (dat m c).before (1 : Fin 3) t0_0 d = embAt m c := by
  unfold Dat.before; rw [if_pos (fetch0_1 t0_0)]; rfl

theorem owesAt_intro (c : Dev nD) (t : Fin (cfg0.N + 1)) (O : CellTallies nD τ sig Unit) (h0 : (dat m c).owed t = O) (W : Waits sig Unit) :
    (owes (c : Thread nD τ) O W : sProp 𝕄) ⊢ (dat m c).owesAt () t := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The body's start and end, window by window. -/
def regPre (c : Dev nD) : sProp 𝕄 :=
  iprop(Φ₀ m c ∗ (dat m c).owesAt () t0_0.castSucc
    ∗ (∃ d, owns (c : Thread nD τ) idsM fullShare ((dat m c).before (0 : Fin 3) t0_0 d))
    ∗ (∃ d, owns (c : Thread nD τ) embM fullShare ((dat m c).before (1 : Fin 3) t0_0 d))
    ∗ (∃ d, owns (c : Thread nD τ) outM fullShare ((dat m c).before (2 : Fin 3) t0_0 d)))
def regPost (c : Dev nD) : sProp 𝕄 :=
  iprop(Φ₁ c ∗ (dat m c).owesAt () t0_0.succ
    ∗ owns (c : Thread nD τ) idsM fullShare (idsAt m c)
    ∗ owns (c : Thread nD τ) embM fullShare (embAt m c)
    ∗ owns (c : Thread nD τ) outM fullShare (outAt m c))

theorem rest_eq (c : Dev nD) : (Pipeline.scopedRest (Ix := Unit) (Name := ℕ) (U := UU) (Lvl := ℕ) (Val := Elt F) spec0 c : sProp 𝕄)
    = iprop((∃ X, owns (c : Thread nD τ) quantM fullShare X)
    ∗ (∃ X, owns (c : Thread nD τ) sendM fullShare X)
    ∗ (∃ X, owns (c : Thread nD τ) recvM fullShare X)
    ∗ (∃ X, owns (c : Thread nD τ) scaleM fullShare X)
    ∗ (∃ X, owns (c : Thread nD τ) rscaleM fullShare X)) := by
  rw [scopedRest0_eq, whole_some, whole_some, whole_some, whole_some, whole_some]
  rfl

/-- The body takes the region from its start to its end. -/
theorem region_run (c : Dev nD) :
    regPre m c ⊢ wp frame (wpE (defs₀ (F := F)) 𝒱₀ (c : Thread nD τ) none) Set.univ
      (cc0_body (F := F) idsM (Memref.isWhole_whole _) embM (Memref.isWhole_whole _) outM (Memref.isWhole_whole _) quantM (Memref.isWhole_whole _)
        sendM (Memref.isWhole_whole _) recvM (Memref.isWhole_whole _) scaleM (Memref.isWhole_whole _) rscaleM (Memref.isWhole_whole _)
        cc0_scratch5 cc0_scratch6 cc0_scratch7 cc0_scratch8) (fun _ => regPost m c) := by
  unfold regPre Φ₀ Xk
  rw [rest_eq, open_eq, toksOf_eq, credsOf_eq]
  iintro ⟨⟨⟨⟨%K, #HI, #HrB, Hat0, Hop, Htok⟩, Hcr, #Hlev⟩, ⟨HQ, HX, HR, HS, HRS⟩, Hreg⟩, HO, ⟨%d0, Hi⟩, ⟨%d1, He⟩, ⟨%d2, Hz⟩⟩
  rw [before_0, before_1]
  icases Hop with ⟨⟨Hat1, #Hr1⟩, ⟨Hat2, #Hr2⟩, ⟨Hat3, #Hr3⟩, ⟨Hat4, #Hr4⟩, ⟨Hat5, #Hr5⟩, ⟨Hat6, #Hr6⟩, ⟨Hat7, #Hr7⟩, ⟨Hat8, #Hr8⟩, ⟨Hat9, #Hr9⟩, ⟨Hat10, #Hr10⟩⟩
  icases Htok with ⟨Ht0, Ht1, Ht2, Ht3, Ht4, Ht5, Ht6, Ht7, Ht8, Ht9, Ht10⟩
  icases Hcr with ⟨Hc0, Hc2, Hc7, Hc8, Hc9, Hc10⟩
  ihave HO := (owesAt_elim m c _ (O₀ c) rfl) $$ HO
  ihave HXs := (split_rows sendM c) $$ HX
  icases HXs with ⟨HX0, HX1, HX2, HX3⟩
  ihave HRs := (split_rows recvM c) $$ HR
  icases HRs with ⟨HR0, HR1, HR2, HR3⟩
  ihave Hz' := (split_rows outM c) $$ [Hz]
  · iexists _; iexact Hz
  icases Hz' with ⟨HZ0, HZ1, HZ2, HZ3⟩
  iapply (fupd_wp (E := Set.univ))
  imodintro
  iapply wp_fupd
  iapply (body_run m K c _ _ _ _ _ _ _ _)
  isplitr [Hreg]
  · unfold bodyPre
    isplitr; · iexact HI
    isplitr; · iexact Hlev
    isplitl [HO]; · iexact HO
    isplitr; · iexact HrB
    isplitr; · iexact Hr1
    isplitr; · iexact Hr2
    isplitr; · iexact Hr3
    isplitr; · iexact Hr4
    isplitr; · iexact Hr5
    isplitr; · iexact Hr6
    isplitr; · iexact Hr7
    isplitr; · iexact Hr8
    isplitr; · iexact Hr9
    isplitr; · iexact Hr10
    isplitl [Ht0]; · iexact Ht0
    isplitl [Ht2]; · iexact Ht2
    isplitl [Ht7]; · iexact Ht7
    isplitl [Ht8]; · iexact Ht8
    isplitl [Ht9]; · iexact Ht9
    isplitl [Ht10]; · iexact Ht10
    isplitl [Ht1]; · iexact Ht1
    isplitl [Ht3]; · iexact Ht3
    isplitl [Ht4]; · iexact Ht4
    isplitl [Ht5]; · iexact Ht5
    isplitl [Ht6]; · iexact Ht6
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hc0]; · iexact Hc0
    isplitl [Hc2]; · iexact Hc2
    isplitl [Hc7]; · iexact Hc7
    isplitl [Hc8]; · iexact Hc8
    isplitl [Hc9]; · iexact Hc9
    isplitl [Hc10]; · iexact Hc10
    isplitl [Hi]; · iexact Hi
    isplitl [He]; · iexact He
    isplitl [HQ]; · iexact HQ
    isplitl [HS]; · iexact HS
    isplitl [HRS]; · iexact HRS
    isplitl [HX0]; · iexact HX0
    isplitl [HX1]; · iexact HX1
    isplitl [HX2]; · iexact HX2
    isplitl [HX3]; · iexact HX3
    isplitl [HR0]; · iexact HR0
    isplitl [HR1]; · iexact HR1
    isplitl [HR2]; · iexact HR2
    isplitl [HR3]; · iexact HR3
    isplitl [HZ0]; · iexact HZ0
    isplitl [HZ1]; · iexact HZ1
    isplitl [HZ2]; · iexact HZ2
    iexact HZ3
  unfold bodyPost
  iintro ⟨HO, Hat0, Hat1, Hat2, Hat3, Hat4, Hat5, Hat6, Hat7, Hat8, Hat9, Hat10, Hi, He, HQ, HS, HRS, HX0, HX1, HX2, HX3, HR0, HR1, HR2, HR3, HZ0, HZ1, HZ2, HZ3⟩
  imod (close_all m K c) $$ [Hat0 Hat1 Hat2 Hat3 Hat4 Hat5 Hat6 Hat7 Hat8 Hat9 Hat10] with Hsem
  · isplitr; · iexact HI
    iapply (Entails.of_eq (ats_eq c (0 + 1)).symm)
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    iexact Hat10
  imodintro
  ihave Hsem := (Entails.of_eq (sems_eq c)) $$ Hsem
  icases Hsem with ⟨Hb, Hs⟩
  icases HO with ⟨%W', HO⟩
  unfold regPost Φ₁ Yk
  rw [rest_eq]
  isplitr [HO Hi He HZ0 HZ1 HZ2 HZ3]
  · isplitl [Hb Hs]
    · isplitl [Hb]; · iexact Hb
      iexact Hs
    isplitr [Hreg]
    · isplitl [HQ]; · iexact HQ
      isplitl [HX0 HX1 HX2 HX3]
      · iapply (join_rows_some sendM c)
        isplitl [HX0]; · iexact HX0
        isplitl [HX1]; · iexact HX1
        isplitl [HX2]; · iexact HX2
        iexact HX3
      isplitl [HR0 HR1 HR2 HR3]
      · iapply (join_rows_some recvM c)
        isplitl [HR0]; · iexact HR0
        isplitl [HR1]; · iexact HR1
        isplitl [HR2]; · iexact HR2
        iexact HR3
      isplitl [HS]; · iexact HS
      iexact HRS
    iexact Hreg
  isplitl [HO]; · iapply (owesAt_intro m c t0_0.succ 0 rfl W'); iexact HO
  isplitl [Hi]; · iexact Hi
  isplitl [He]; · iexact He
  iapply (join_rows outM c (outV m c))
  isplitl [HZ0]; · iexact HZ0
  isplitl [HZ1]; · iexact HZ1
  isplitl [HZ2]; · iexact HZ2
  iexact HZ3

/-- The region's body obligation. -/
theorem body_obligation (c : Dev nD) : BodyObligation (dat m c) (defs₀ (F := F)) 𝒱₀ () Set.univ := fun t => by
  obtain rfl := fin_N0 t
  rw [bigSep_W0, bigSep_W0]
  exact region_run m c

end Cert.Lookup
-- ==== Proof.Launch.lean ====
/-
  The launch: every semaphore's invariant and every token dealt to the devices, the two segments of the program, and the
  run of the whole program from any memory.
-/
module

public import proofs.«01_k».proof.Proof.Region

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers of the program -/

abbrev pt (c : Dev nD) (b : Ref sig .tc) (f : Buf (Elt F) ((c : Thread nD τ).loc b)) : sProp 𝕄 := ((c : Thread nD τ).loc b) ↦{fullShare} f

abbrev ucs : Finset (DevRef τ sig) := Pipeline.ucRefs τ sig
abbrev arrs : Finset (DevRef τ sig) := Pipeline.arrRefs (τ := τ) spec0
abbrev rests : Finset (DevRef τ sig) := {Proc.devRef .tc main_arg0}

/-- What a device's arrays hold, listed one by one. -/
theorem held_ucs (c : Dev nD) (W : Valuation τ sig (Elt F)) : (StableHlo.held (c : Thread nD τ) ucs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem held_arrs (c : Dev nD) (W : Valuation τ sig (Elt F)) : (StableHlo.held (c : Thread nD τ) arrs W : sProp 𝕄)
    = iprop(pt c main_v1 (W main_v1) ∗ pt c main_arg1 (W main_arg1) ∗ pt c main_v2 (W main_v2)) := by
  unfold StableHlo.held
  rw [bigSep_eq_bigSepL_of_eq [Proc.devRef .tc main_v1, Proc.devRef .tc main_arg1, Proc.devRef .tc main_v2] (by decide) (by decide)]
  rfl

theorem held_rests (c : Dev nD) (W : Valuation τ sig (Elt F)) : (StableHlo.held (c : Thread nD τ) rests W : sProp 𝕄)
    = pt c main_arg0 (W main_arg0) := by
  unfold StableHlo.held
  rw [bigSep_singleton]

theorem unscopedSems_eq (c : Dev nD) : (unscopedSems0 c : sProp 𝕄) = semVal (kcell (c, 0)) 0 := by
  unfold unscopedSems0
  rw [show (Finset.univ.filter fun sm : SemLoc sig => ¬ sm.isScoped .tc) = {SemLoc.reg barS} from by decide, BI.bigSep_singleton]
  rfl

theorem unscoped_sem : ∀ sm : SemLoc sig, sm.isScoped .tc = false → sm = .reg barS := by decide

/-- The buffers at launch, at the region's entry, and after it. -/
abbrev V₀ (c : Dev nD) : Valuation τ sig (Elt F) := fun b => m (c, b)
abbrev V₁ (c : Dev nD) : Valuation τ sig (Elt F) := StableHlo.after hostOps0 (V₀ m c)
/-- The arrays' contents after the call: the result is written, all else is as before. -/
def V₂ (c : Dev nD) : Valuation τ sig (Elt F) := Function.update (V₁ m c) (Proc.devRef .tc main_v2) (outAt m c)

theorem V₂_v2 (c : Dev nD) : V₂ m c main_v2 = outAt m c := Function.update_self ..
theorem V₂_ne (c : Dev nD) (b : Ref sig .tc) (h : (Proc.devRef .tc b : DevRef τ sig) ≠ Proc.devRef .tc main_v2) : V₂ m c b = V₁ m c b :=
  Function.update_of_ne h ..
theorem V₂_arg0 (c : Dev nD) : V₂ m c main_arg0 = m ((c : Thread nD τ).loc main_arg0) :=
  (V₂_ne m c main_arg0 (StableHlo.devRef_ne_of_ne (by decide))).trans (V_main_arg0 m c)
theorem V₂_arg1 (c : Dev nD) : V₂ m c main_arg1 = m ((c : Thread nD τ).loc main_arg1) :=
  (V₂_ne m c main_arg1 (StableHlo.devRef_ne_of_ne (by decide))).trans (V_main_arg1 m c)

/-! ## The region's record -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the region. -/
def R (c : Dev nD) : sProp 𝕄 := iprop(Tk m c ∗ (∃ r, prngReg c r) ∗ ∃ W, owes (c : Thread nD τ) (O₀ c) W)

/-- The host line before the region. -/
def seg0 : ℍ := Pipeline.HostSeg.ofOps _ _ _ _ _ ucs hostOps0
  (fun op h => Pipeline.sub_ucRefs op (List.forall_iff_forall_mem.mp hostOps0_sub op h))
  (List.forall_iff_forall_mem.mp hostOps0_fresh) (V₀ m) (R m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have h' : 0 < (dat (F := F) m c).owed t g i := h
  obtain ⟨t, ht⟩ := t
  cases t with
  | succ n => exact absurd h' (Nat.lt_irrefl 0)
  | zero =>
    have h'' : 0 < owe c [0, 2, 7, 8, 9, 10] g i := h'
    obtain ⟨k, hk, rfl⟩ := owe_pos h''
    refine ⟨by rw [L_tc]; exact Finset.mem_singleton_self _, ?_⟩
    dsimp only [lv]; rw [kindOf_csem]
    clear h h' h''; revert k; decide

theorem stage_level (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  have h : ∀ (w : Fin 3) (s : Fin (win0 w).nbuf), kindOf (.dma ((win0 w).sem s)) = none := by decide
  show (match kindOf (.dma ((win0 w).sem s)) with
    | some 0 => 1 | some 2 => 2 | some 7 => 2 | some 8 => 2 | some 9 => 2 | some 10 => 2 | _ => 0) ≤ 0
  rw [h w s]

theorem share_eq (c : Dev nD) (w : Fin cfg0.W) : (dat m c).share w = fullShare := by unfold Dat.share; split <;> rfl

/-- The result's array after the region: the one block, written over the whole of it. -/
theorem arr_out (c : Dev nD) : (dat m c).arrAt (2 : Fin 3) cfg0.N = outAt m c := by
  have hw : ((cfg0.win 2).blk t0_0).view.read (Elt F) ((dat m c).arrAt (2 : Fin 3) cfg0.N) = (dat m c).flushed (2 : Fin 3) t0_0 := by
    rw [show cfg0.N = t0_0.val + 1 from rfl, (dat m c).arrAt_succ (2 : Fin 3) t0_0, flush0_2, if_pos rfl]
    exact View.read_write_univ _ _
  have hf : (dat m c).flushed (2 : Fin 3) t0_0 = outAt m c := by
    show (cfg0.win 2).cut _ ((dat m c).after (2 : Fin 3) t0_0) = _
    rfl
  rw [hf] at hw
  exact (Memref.read_access_unit_zero (Elt F) main_v2 (funext fun a => by fin_cases a <;> rfl) _ ((dat m c).arrAt (2 : Fin 3) cfg0.N)).symm.trans hw

theorem hopen (c : Dev nD) : iprop(Tk m c ∗ Pipeline.ownSems0 osem c ∗ levAts L lv) ⊢ (|={Set.univ}=> Xk m c : sProp 𝕄) := by
  unfold Tk Xk
  iintro ⟨⟨⟨%K, #HI, #HrB, Hat, Ho, Ht⟩, Hc⟩, Hs, #Hlev⟩
  imod (open_all m K c) $$ [Ho Hs] with Hop
  · isplitr; · iexact HI
    isplitl [Ho]; · iexact Ho
    iexact Hs
  imodintro
  isplitl [Hat Hop Ht]
  · iexists K
    isplitr; · iexact HI
    isplitr; · iexact HrB
    isplitl [Hat]; · iexact Hat
    isplitl [Hop]; · iexact Hop
    iexact Ht
  isplitl [Hc]; · iexact Hc
  iexact Hlev

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ Pipeline.scopedRest spec0 c ∗ ∃ r, prngReg c r) from rfl]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop((Yk c ∗ Pipeline.ownSems0 osem c) ∗ Pipeline.scopedRest spec0 c ∗ ∃ r, prngReg c r) from rfl, held_none]
  iintro ⟨⟨Hy, Ho⟩, Hs, Hp⟩
  isplitl [Hs]; · iexact Hs
  isplitl [Hp]; · iexact Hp
  isplitr; · iempintro
  isplitl [Ho]; · iexact Ho
  iexact Hy

set_option backward.isDefEq.respectTransparency.types false in
/-- The kernel's region. -/
def reg0 : ℝ𝕊 0 :=
  Pipeline.RegionSeg.ofTalk (pcfgs (F := F)) adm (pdats m) () defs₀ 𝒱₀ L lv 0 osem osem_facts
    ∅ rests (Finset.empty_subset _) kit rfl (fun c => (body_obligation m c).loose)
    (fun _ => 0) O₀ (fun c => (zero_add (O₀ c)).symm) (fun _ => rfl) (fun _ => rfl) (share_eq m)
    (V₁ m) (V₂ m) (fun c b hb => by
      have hb' : b = Proc.devRef .tc main_arg0 := Finset.mem_singleton.mp (Finset.mem_sdiff.mp hb).1
      subst hb'
      exact V₂_ne m c main_arg0 (StableHlo.devRef_ne_of_ne (by decide)))
    (Tk m) Yk (Xk m) Yk (hopen m) (hin m) (hout m)
    (fun c => by iintro H; imodintro; iexact H)
    (fun _ => 0)
    ⟨fun c w s => by rw [L_tc]; exact Finset.mem_singleton_self _, stage_level, fun c t g i h => cut m c t g i h⟩
    (fun _ => iprop(emp))
    (fun c w => rfl)
    (fun c w => by
      have h0 : (dat m c).arrAt (0 : Fin 3) cfg0.N = V₂ m c main_v1 :=
        ((dat m c).arrAt_in (0 : Fin 3) rfl _).trans (V₂_ne m c main_v1 (StableHlo.devRef_ne_of_ne (by decide))).symm
      have h1 : (dat m c).arrAt (1 : Fin 3) cfg0.N = V₂ m c main_arg1 :=
        ((dat m c).arrAt_in (1 : Fin 3) rfl _).trans (V₂_ne m c main_arg1 (StableHlo.devRef_ne_of_ne (by decide))).symm
      have h2 : (dat m c).arrAt (2 : Fin 3) cfg0.N = V₂ m c main_v2 := (arr_out m c).trans (V₂_v2 m c).symm
      exact match w with
        | ⟨0, _⟩ => h0
        | ⟨1, _⟩ => h1
        | ⟨2, _⟩ => h2)

/-- What the device holds after the host step opens the call. -/
theorem reg0_pre (c : Dev nD) : iprop(StableHlo.held (c : Thread nD τ) ucs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) rests (V₁ m c) ∗ emp) ∗ Tk m c ∗ ∃ Wd, owes (c : Thread nD τ) (0 + O₀ c) Wd)
  rw [held_arrs, held_rests, held_ucs, zero_add]
  unfold R
  iintro ⟨⟨H0, H1, H2, H3⟩, HT, Hp, HO⟩
  isplitl [H1 H2 H3]
  · isplitl [H2]; · iexact H2
    isplitl [H1]; · iexact H1
    iexact H3
  isplitl [Hp]; · iexact Hp
  isplitl [H0]
  · isplitl [H0]; · iexact H0
    iempintro
  isplitl [HT]; · iexact HT
  iexact HO

/-- What the program leaves on device `c`. -/
abbrev Tₙ (c : Dev nD) : sProp 𝕄 :=
  iprop((pt c main_arg0 (V₂ m c main_arg0) ∗ pt c main_arg1 (V₂ m c main_arg1) ∗ pt c main_v2 (V₂ m c main_v2)) ∗ semVal (kcell (c, 0)) 0)

/-- What the call leaves is what the end of the program needs. -/
theorem reg0_post (c : Dev nD) : (reg0 m).post c
    ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rests (V₂ m c) ∗ emp) ∗ Yk c ∗ ∃ Wd, owes (c : Thread nD τ) (0 : CellTallies nD τ sig Unit) Wd) ⊢ _
  rw [held_arrs, held_rests]
  unfold Yk
  iintro ⟨⟨H2, H1, H3⟩, -, ⟨H0, -⟩, Hb, HO⟩
  isplitr [HO]
  · isplitl [H0 H1 H3]
    · isplitl [H0]; · iexact H0
      isplitl [H1]; · iexact H1
      iexact H3
    iexact Hb
  iexact HO

/-- The program as the host line and the region. -/
def segs : List (Pipeline.Seg (pcfgs (F := F)) adm (pdats m) () defs₀ 𝒱₀ L lv) := [.host (seg0 m), .region (reg0 m)]

/-- The program is its host step followed by the call. -/
theorem main_eq (c : Dev nD) : main (F := F) c = Pipeline.Seg.run (segs m) :=
  main_segs adm (pdats m) () 𝒱₀ L lv (seg0 m) (reg0 m) rfl c

/-! ## The launch's resources -/

def barEmb : Dev nD ↪ GSem nD τ sig := ⟨fun c => kcell (c, 0), fun _ _ h => congrArg Prod.fst (kcell_inj h)⟩
def scEmb : Dev nD × Fin 10 ↪ GSem nD τ sig := ⟨fun ck => kcell (ck.1, ck.2.succ), fun a b h =>
  have h' := kcell_inj h
  Prod.ext (congrArg (fun x => x.1) h') (Fin.succ_injective _ (congrArg (fun x => x.2) h'))⟩
def allEmb : Dev nD × Fin 11 ↪ GSem nD τ sig := ⟨kcell, kcell_inj⟩
def tokEmb : Dev nD × Fin 11 ↪ GSem nD τ sig × ℕ × Unit := ⟨fun ck => (kcell ck, 0, ()), fun _ _ h => kcell_inj (congrArg Prod.fst h)⟩

/-- The barriers, live from launch; the others, dormant until the region; every token. -/
abbrev barCells : Finset (GSem nD τ sig) := Finset.univ.map barEmb
abbrev scCells : Finset (GSem nD τ sig) := Finset.univ.map scEmb
def tokens : Finset (GSem nD τ sig × ℕ × Unit) := Finset.univ.map tokEmb

theorem cells_eq : (barCells ∪ scCells : Finset (GSem nD τ sig)) = Finset.univ.map allEmb := by
  ext g
  simp only [Finset.mem_union, Finset.mem_map, Finset.mem_univ, true_and]
  constructor
  · rintro (⟨c, rfl⟩ | ⟨⟨c, k⟩, rfl⟩)
    · exact ⟨(c, 0), rfl⟩
    · exact ⟨(c, k.succ), rfl⟩
  · rintro ⟨⟨c, k⟩, rfl⟩
    exact Fin.cases (Or.inl ⟨c, rfl⟩) (fun k => Or.inr ⟨(c, k), rfl⟩) k

/-- The barrier cells are none of the others. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact absurd (congrArg Prod.snd (kcell_inj h)) (Fin.succ_ne_zero _)

/-- The launch element: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells scCells tokens)

/-- The protocol's launch element is kept by device 0 until it is dealt. -/
def G (c : Dev nD) : sProp 𝕄 := if c = 0 then BI.own (ER (launchOf barCells scCells tokens)) else iprop(emp)

theorem G_all : bigSep Finset.univ (G (F := F)) = BI.own (ER (launchOf barCells scCells tokens)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (κ : GSem nD τ sig → ℕ) : sProp 𝕄 := iprop(invs m κ ∗ bigSep barCells fun g => reached ER g 0)

instance records_persistent (κ : GSem nD τ sig → ℕ) : BI.Persistent (records m κ) := by unfold records; infer_instance

theorem invs_intro (κ : GSem nD τ sig → ℕ) :
    (bigSep (barCells ∪ scCells) fun g => (cellInv ER (sched m) (κ g) g : sProp 𝕄)) ⊢ invs m κ := by
  rw [cells_eq, bigSep_map]; unfold invs; exact BI.Entails.refl _

theorem reached_at (c : Dev nD) : (bigSep barCells fun g => (reached ER g 0 : sProp 𝕄)) ⊢ reached ER (kcell (c, 0)) 0 :=
  bigSep_elim (Finset.mem_map_of_mem barEmb (Finset.mem_univ c))

/-- What is dealt to device `c` alone. -/
def dealt (c : Dev nD) : sProp 𝕄 :=
  iprop(atPos ER (kcell (c, 0)) 0 ∅ 0 ∗ bigSep Finset.univ (fun k : Fin 10 => openTok ER (kcell (c, k.succ))) ∗ toksOf c)

/-- Paying is mutual: the payer of the payer's cell is the device itself. -/
theorem payer_payer (k : Fin 11) (c : Dev nD) : payer k (payer k c) = c := by
  fin_cases k <;> first | rfl | exact peer_peer c
def payE : Dev nD × Fin 11 ≃ Dev nD × Fin 11 :=
  ⟨fun ck => (payer ck.2 ck.1, ck.2), fun ck => (payer ck.2 ck.1, ck.2), fun ck => Prod.ext (payer_payer ck.2 ck.1) rfl,
    fun ck => Prod.ext (payer_payer ck.2 ck.1) rfl⟩

/-- Every token goes to the device that pays with it. -/
theorem tokens_dealt : bigSep tokens (fun x => (dutyTok ER x.1 x.2.1 x.2.2 : sProp 𝕄)) = bigSep Finset.univ fun c : Dev nD => toksOf c := by
  unfold tokens toksOf
  rw [bigSep_map,
    ← bigSep_univ_prod fun ck : Dev nD × Fin 11 => (dutyTok ER (kcell (payer ck.2 ck.1, ck.2)) 0 () : sProp 𝕄)]
  exact bigSep_univ_equiv payE fun ck : Dev nD × Fin 11 => (dutyTok ER (kcell ck) 0 () : sProp 𝕄)

/-! ### The launch credit -/

theorem launch_at (c : Dev nD) (k : Fin 11) (hk : k ∈ [0, 2, 7, 8, 9, 10]) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same,
    Finset.sum_congr rfl fun d _ => show (O₀ d (kcell (c, k))) PUnit.unit = if d = peer c then amt k else 0 from
      (owe_at d c k [0, 2, 7, 8, 9, 10] (by decide)).trans (by rw [if_pos hk]),
    Finset.sum_ite_eq' Finset.univ (peer c) fun _ => amt k, if_pos (Finset.mem_univ _)]

/-- The credits of the launch are those that the device's waits need. -/
theorem creds_dealt (c : Dev nD) : (Pipeline.launchCred O₀ c : sProp 𝕄) ⊢ credsOf c := by
  unfold Pipeline.launchCred credsOf
  refine (bigSep_subset (Finset.subset_univ (({0, 2, 7, 8, 9, 10} : Finset (Fin 11)).map ⟨csem, csem_inj⟩))).trans ?_
  rw [bigSep_map]
  refine bigSep_mono fun k hk => ?_
  have h : (cred (tallyOn (kcell (c, k)) (launchCredit (Pipeline.owing O₀) 0 (kcell (c, k)))) : sProp 𝕄) = cred (tallyAt (kcell (c, k)) () (amt k)) :=
    congrArg cred (launch_at c k (by revert hk; revert k; decide))
  exact fun a ha => h ▸ ha

/-! ### The run -/

abbrev T₀ (c : Dev nD) : sProp 𝕄 := iprop(StableHlo.held (c : Thread nD τ) ucs (V₀ m c) ∗ R m c)

/-- What device `c` holds at launch beside the protocol's part. -/
def bundle (c : Dev nD) : sProp 𝕄 :=
  iprop(StableHlo.held (c : Thread nD τ) ucs (V₀ m c) ∗ credsOf c ∗ owes (c : Thread nD τ) (O₀ c) ∅ ∗ ∃ r, prngReg c r)

theorem T₀_intro (κ : GSem nD τ sig → ℕ) (c : Dev nD) : iprop(records m κ ∗ (dealt c ∗ bundle m c)) ⊢ T₀ m c := by
  unfold bundle T₀ R Tk records dealt
  iintro ⟨⟨#HI, #Hr⟩, ⟨Hat, Ho, Ht⟩, Hh, Hc, HO, Hp⟩
  isplitl [Hh]; · iexact Hh
  isplitl [Hat Ho Ht Hc]
  · isplitl [Hat Ho Ht]
    · iexists κ
      isplitr; · iexact HI
      isplitr; · iapply (reached_at (F := F) (peer c)); iexact Hr
      isplitl [Hat]; · iexact Hat
      isplitl [Ho]; · iexact Ho
      iexact Ht
    iexact Hc
  isplitl [Hp]; · iexact Hp
  iexists ∅; iexact HO

/-- The launch: everything allocated and dealt, on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (kcell (c, 0)) 0 ∗ G c)) : sProp 𝕄) := by
    rw [show unscopedBufs c (fun b => m ((c : Thread nD τ).loc b)) = StableHlo.held (c : Thread nD τ) ucs (V₀ m c) from Pipeline.unscopedBufs_held c (V₀ m c),
      unscopedSems_eq]
    unfold bundle
    iintro ⟨Hh, Hus, HO, Hcr, Hp, HG⟩
    ihave Hc := (creds_dealt (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (kcell (c, 0)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kcell (c, 0)) 0 ∅ 0 : sProp 𝕄)) :=
    Entails.of_eq (bigSep_map (s := Finset.univ) barEmb (Φ := fun g : GSem nD τ sig => (atPos ER g 0 ∅ 0 : sProp 𝕄)))
  have hopn : bigSep scCells (fun g => (openTok ER g : sProp 𝕄))
      ⊢ bigSep Finset.univ (fun c : Dev nD => bigSep Finset.univ (fun k : Fin 10 => (openTok ER (kcell (c, k.succ)) : sProp 𝕄))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (kcell (c, 0)) 0 ∗ G c)) : sProp 𝕄) from bigSep_mono fun c _ => hcore c) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  ihave Hu := (Entails.of_eq (G_all (F := F))) $$ HG
  imod (Rounds.fund_launch ER (sched m) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ bundle m c)) fun c _ => T₀_intro m κ c)
  isplitr
  · unfold records
    isplitr; · iapply (invs_intro m κ); iexact Hinv
    iexact Hr
  iapply Idealize.ShloMosaic.Smoke.bigSep_pair
  isplitr [HB]
  · unfold dealt
    iapply Idealize.ShloMosaic.Smoke.bigSep_pair; isplitl [Hat]; · iapply hat $$ Hat
    iapply Idealize.ShloMosaic.Smoke.bigSep_pair; isplitl [Hopen]; · iapply hopn $$ Hopen
    iapply (Entails.of_eq (tokens_dealt (F := F))) $$ Htok
  · iexact HB

set_option backward.isDefEq.respectTransparency.types false in
/-- The run of the program: from any memory with the semaphores at zero it ends, with the result `outAt` on every device, the
    arguments unchanged and every semaphore at zero. -/
theorem run_main : θ_run defs (onTc (τ := τ) (main (F := F))) ⟨m, fun _ => 0, ρ⟩
    (fun r => (∀ c : Dev nD, r.2.mem ((c.tc : Thread nD τ).loc main_v2) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (kcell (c, 0)) = 0)
    (hfin := fun c s' => by
      dsimp only [Tₙ]
      iintro ⟨⟨⟨H0, H1, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0] at h0; rw [V₂_arg1] at h1; rw [V₂_v2] at h2
        exact ⟨h2, h0, h1⟩,
      sem_eq_zero hs fun c sm hsm => by
        obtain rfl := unscoped_sem sm hsm
        exact (h c).2⟩)

end Cert.Lookup
-- ==== Proof.OneHot.lean ====
/-
  What a chunk's one-hot product holds: for each id the row of the quantised half table that it names, where the half has
  that row, and zero where it has not.
-/
module

public import proofs.«01_k».proof.Proof.Protocol
public import Idealize.ShloMosaic.Lib.IntMxu
public import Idealize.ShloMosaic.Lib.ValueIdx
public import Idealize.ShloMosaic.Lib.Pipeline.Value

@[expose] public section

noncomputable section

namespace Cert.Lookup

open Cert.KernelIdeal Cert.KernelIdeal.Gen
open Idealize.ShloMosaic Idealize.ShloMosaic.ValueIdx

variable {F : FTy → Type} [FloatOps F]

/-- The dimension numbers of the product of a one-hot block with the quantised table half. -/
abbrev dims : DotDims S128x4096 S4096x512 S128x512 := dot_S128x4096_S4096x512_S128x512_1_0_0_1_n_n

/-- The contraction's index is a row of the half table. -/
abbrev rowOf : dims.contr.Idx ≃ Fin 4096 := contrEquiv1 dims 4096 rfl rfl

/-- The left factor of the product at row `r` is read at row `r` and the contracted position. -/
theorem lhs_at (r : Fin 128) (l : Fin 512) (k : dims.contr.Idx) : dims.lhsIdx (ix2 r l) k = ix2 r (rowOf k) := by
  funext a; fin_cases a <;> rfl
/-- The right factor of the product at column `l` is read at the contracted position and column `l`. -/
theorem rhs_at (r : Fin 128) (l : Fin 512) (k : dims.contr.Idx) : dims.rhsIdx (ix2 r l) k = ix2 (rowOf k) l := by
  funext a; fin_cases a <;> rfl

/-- Widening a signed byte to 32 bits and cutting it back gives the same byte. -/
theorem narrow_byte (w : BitVec 8) : (BitVec.ofInt 32 w.toInt).setWidth 8 = w := by
  rw [← BitVec.signExtend.eq_1]
  exact BitVec.eq_of_getLsbD_eq fun i hi => by simp [BitVec.getLsbD_signExtend, hi]; omega

/-- The product of a one-hot row with the table: the entry of the row that is hot, or zero. -/
theorem product_one_hot (lhs : IVec S128x4096 8) (q : IVec S4096x512 8) (r : Fin 128) (l : Fin 512) (p : ℕ)
    (hl : ∀ k : Fin 4096, lhs (ix2 r k) = if k.val = p then 1#8 else 0#8) :
    trunci 8 (matmulI8 IntMxuNumerics.v7x dims lhs q (constantI S128x512 32 0#32)) natLt_8_32 (ix2 r l)
      = if h : p < 4096 then q (ix2 ⟨p, h⟩ l) else 0#8 := by
  have term : ∀ k : dims.contr.Idx, (lhs (dims.lhsIdx (ix2 r l) k)).toInt * (q (dims.rhsIdx (ix2 r l) k)).toInt
      = if (rowOf k).val = p then (q (ix2 (rowOf k) l)).toInt else 0 := fun k => by
    rw [lhs_at, rhs_at, hl]
    split
    · rw [show (1#8).toInt = 1 from rfl, one_mul]
    · rw [show (0#8).toInt = 0 from rfl, zero_mul]
  have hsum : ∀ f : ℤ → ℤ, f 0 = 0 →
      (∑ k : dims.contr.Idx, f ((lhs (dims.lhsIdx (ix2 r l) k)).toInt * (q (dims.rhsIdx (ix2 r l) k)).toInt))
      = if h : p < 4096 then f (q (ix2 ⟨p, h⟩ l)).toInt else 0 := fun f f0 => by
    rw [Finset.sum_congr rfl fun k _ => congrArg f (term k)]
    rw [← Equiv.sum_comp rowOf.symm]
    simp only [Equiv.apply_symm_apply]
    split
    · rename_i h
      rw [Finset.sum_eq_single (⟨p, h⟩ : Fin 4096)]
      · rw [if_pos rfl]
      · intro k _ hk
        rw [if_neg (fun e => hk (Fin.ext e)), f0]
      · exact fun h => absurd (Finset.mem_univ _) h
    · rename_i h
      refine Finset.sum_eq_zero fun k _ => ?_
      rw [if_neg (fun e : k.val = p => h (e ▸ k.isLt)), f0]
  have hd : dotI8 dims lhs q (ix2 r l) = if h : p < 4096 then (q (ix2 ⟨p, h⟩ l)).toInt else 0 := hsum id rfl
  have ha : absDotI8 dims lhs q (ix2 r l) ≤ 128 := by
    have e : ((absDotI8 dims lhs q (ix2 r l) : ℕ) : ℤ) = if h : p < 4096 then |(q (ix2 ⟨p, h⟩ l)).toInt| else 0 := by
      rw [← hsum (fun z => |z|) abs_zero]
      unfold absDotI8
      push_cast
      refine Finset.sum_congr rfl fun k _ => ?_
      rw [abs_mul]
    split at e
    · have := natAbs_toInt_i8_le (q (ix2 ⟨p, ‹_›⟩ l))
      rw [Int.abs_eq_natAbs] at e
      omega
    · omega
  show (matmulI8 IntMxuNumerics.v7x dims lhs q (constantI S128x512 32 0#32) (ix2 r l)).setWidth 8 = _
  rw [matmulI8_exact _ _ _ _ _ _ rfl (ha.trans (by decide)), hd]
  split
  · exact narrow_byte _
  · rfl

/-- The chunk's payload at row `r`, column `l`: the id's word is `n`, the device's half is `b`. -/
theorem chunk_at (h : BitVec 32) (ids : Vec F S128x1 .i32) (q : Vec F S4096x512 .i8) (r : Fin 128) (l : Fin 512) (b n : ℕ)
    (hb : b < 2) (hh : h = BitVec.ofNat 32 b) (hn : n < 8192) (hid : ids (ix2 r 0) = BitVec.ofNat 32 n) :
    k0_pay5 (F := F) h ids q (ix2 r l) = if n / 4096 = b then q (ix2 ⟨n % 4096, Nat.mod_lt _ (by decide)⟩ l) else 0#8 := by
  have hl : ∀ k : Fin 4096, extui 8 (cmpi .eq (iota .tc S128x4096 16 [1] iota_S128x4096_d1_w16)
      (broadcastTo S128x4096 (trunci 16 (subi (shapeCast S128x1 ids shapeCasts_S128x1_S128x1)
        (broadcast S128x1 (Scalar.muli h 4096#32))) natLt_16_32) broadcasts_S128x1_S128x4096)) natLt_1_8 (ix2 r k)
      = if k.val = (if n / 4096 = b then n % 4096 else 4096) then 1#8 else 0#8 := fun k => by
    have hbr : broadcastTo S128x4096 (trunci 16 (subi (shapeCast S128x1 ids shapeCasts_S128x1_S128x1)
        (broadcast S128x1 (Scalar.muli h 4096#32))) natLt_16_32) broadcasts_S128x1_S128x4096 (ix2 r k)
        = (BitVec.ofNat 32 n - BitVec.ofNat 32 b * 4096#32).setWidth 16 := by
      rw [broadcastTo_apply _ _ _ (ix2 r 0) (fun a => by fin_cases a <;> rfl), shapeCast_self]
      show (ids _ - h * 4096#32).setWidth 16 = _
      rw [hid, hh]
    have hio : iota .tc S128x4096 16 [1] iota_S128x4096_d1_w16 (ix2 r k) = BitVec.ofNat 16 k.val := by
      show BitVec.ofNat 16 (0 * _ + k.val) = _
      rw [Nat.zero_mul, Nat.zero_add]
    show (IntOp.cmpi .eq (iota .tc S128x4096 16 [1] iota_S128x4096_d1_w16 (ix2 r k)) (broadcastTo S128x4096 _ _ (ix2 r k))).setWidth 8 = _
    rw [hbr, hio]
    have hk := k.isLt
    have key : (BitVec.ofNat 16 k.val = (BitVec.ofNat 32 n - BitVec.ofNat 32 b * 4096#32).setWidth 16)
        ↔ k.val = (if n / 4096 = b then n % 4096 else 4096) := by
      rw [← BitVec.toNat_inj]
      simp only [BitVec.toNat_ofNat, BitVec.toNat_setWidth, BitVec.toNat_sub, BitVec.toNat_mul]
      interval_cases b <;> split <;> omega
    show (BitVec.ofBool (decide _)).setWidth 8 = _
    by_cases hc : k.val = (if n / 4096 = b then n % 4096 else 4096)
    · rw [if_pos hc, decide_eq_true (key.mpr hc)]; rfl
    · rw [if_neg hc, decide_eq_false (fun e => hc (key.mp e))]; rfl
  show shapeCast S128x512 (trunci 8 (matmulI8 IntMxuNumerics.v7x dims _ q (constantI S128x512 32 0#32)) natLt_8_32)
    shapeCasts_S128x512_S128x512 (ix2 r l) = _
  rw [shapeCast_self, product_one_hot _ q r l _ hl]
  by_cases hr : n / 4096 = b
  · simp only [if_pos hr]
    rw [dif_pos (Nat.mod_lt _ (by decide))]
  · simp only [if_neg hr]
    rw [dif_neg (by decide)]

end Cert.Lookup
-- ==== Proof.Quantiser.lean ====
/-
  The quantiser over the extended reals: the kernel multiplies by the inverse of the scale and keeps eight bits, the
  reference divides by the scale and keeps thirty-two; scaled back, the two codes are the same number.
-/
module

public import Idealize.ShloMosaic.PureOps.Ideal.Laws
public import Idealize.ShloMosaic.Lib.ValueIdx

@[expose] public section

noncomputable section

namespace Cert.Lookup

open Idealize.ShloMosaic

/-- The magnitude of a value, as both programs compute it. -/
def mag (x : EReal) : EReal := max x (-x)

/-- The constant `1.02 / 127`, as the float word that both programs hold. -/
def step : EReal := Ideal.ofBits .f32 0x3C039689#32

/-- The kernel's code of `x` at the scale `s`: eight bits of `x` times the inverse of `s`, rounded. -/
def code8 (s x : EReal) : BitVec 8 := Ideal.fptosi 8 (Ideal.liftRound Ideal.roundHalfEven (x * Ideal.div 1 s))
/-- The reference's code of `x` at the scale `s`: thirty-two bits of `x` over `s`, rounded. -/
def code32 (s x : EReal) : BitVec 32 := Ideal.fptosi 32 (Ideal.liftRound Ideal.roundHalfEven (Ideal.div x s))

/-- The kernel's code, scaled back. -/
def back (s x : EReal) : EReal := (((code8 s x).toInt : ℝ) : EReal) * s

/-- The literal by which the largest magnitude is scaled, as the rational that its word is. -/
theorem step_eq : step = ((8623753 / 1073741824 : ℝ) : EReal) := by
  unfold step Ideal.ofBits Ideal.ieee
  have h1 : (BitVec.extractLsb' 23 8 0x3C039689#32).toNat = 120 := by decide
  have h2 : (BitVec.extractLsb' 0 23 0x3C039689#32).toNat = 235145 := by decide
  have h3 : (BitVec.extractLsb' (8 + 23) 1 0x3C039689#32 == 1#1) = false := by decide
  simp only [h1, h2, h3]
  norm_num

/-- A magnitude is never negative. -/
theorem mag_nonneg (x : EReal) : 0 ≤ mag x := by
  unfold mag
  rcases le_total 0 x with h | h
  · exact h.trans (le_max_left _ _)
  · exact (EReal.neg_nonneg.mpr h).trans (le_max_right _ _)

/-- A real number of magnitude at most 125 rounds to an integer between -126 and 126. -/
theorem rhe_bounds {y : ℝ} (h : |y| ≤ 125) : -126 ≤ Ideal.roundHalfEven y ∧ Ideal.roundHalfEven y ≤ 126 := by
  obtain ⟨h1, h2⟩ := abs_le.mp h
  have hl : -125 ≤ ⌊y⌋ := Int.le_floor.mpr (by push_cast; linarith)
  have hu : ⌊y⌋ ≤ 125 := by
    have : (⌊y⌋ : ℝ) ≤ 125 := (Int.floor_le y).trans h2
    exact_mod_cast this
  unfold Ideal.roundHalfEven
  dsimp only
  split_ifs <;> omega

/-- An integer between -126 and 126 survives the conversion to any signed word of at least 8 bits. -/
theorem toInt_fptosi {w : ℕ} (hw : 8 ≤ w) {n : ℤ} (h : -126 ≤ n ∧ n ≤ 126) : (Ideal.fptosi w (((n : ℝ)) : EReal)).toInt = n := by
  have hp : (2 : ℕ) ^ 7 ≤ 2 ^ (w - 1) := Nat.pow_le_pow_right (by norm_num) (by omega)
  have e : Ideal.toIntClamped (-(2 ^ (w - 1) : Nat)) ((2 ^ (w - 1) : Nat) - 1) (((n : ℝ)) : EReal) = n := by
    show max _ (min _ (if (0 : ℝ) ≤ (n : ℝ) then ⌊(n : ℝ)⌋ else ⌈(n : ℝ)⌉)) = n
    rw [Int.floor_intCast, Int.ceil_intCast, ite_self]
    omega
  unfold Ideal.fptosi
  rw [e, BitVec.toInt_ofInt]
  have hp2 : (2 : ℕ) ^ w = 2 * 2 ^ (w - 1) := by rw [← pow_succ']; congr 1; omega
  apply Int.bmod_eq_of_le <;> omega

/-- Where every magnitude is at most `M` and the scale is `M` times the step, the two codes scaled back agree. -/
theorem codes_agree (x M : EReal) (h : mag x ≤ M) :
    back (M * step) x = (((code32 (M * step) x).toInt : ℝ) : EReal) * (M * step) := by
  have hM : 0 ≤ M := (mag_nonneg x).trans h
  have hs : (0 : ℝ) < 8623753 / 1073741824 := by norm_num
  unfold back
  rw [step_eq]
  induction M using EReal.rec with
  | bot => exact absurd hM (by simp)
  | top =>
    rw [EReal.top_mul_coe_of_pos hs]
    have e1 : Ideal.div 1 ⊤ = 0 := by unfold Ideal.div; rw [if_neg (by simp)]; simp
    have e2 : Ideal.div x ⊤ = 0 := by unfold Ideal.div; rw [if_neg (by simp)]; simp
    have e3 : Ideal.liftRound Ideal.roundHalfEven 0 = (((0 : ℤ) : ℝ) : EReal) := by
      show (((Ideal.roundHalfEven 0 : ℤ) : ℝ) : EReal) = _
      congr 2; unfold Ideal.roundHalfEven; norm_num
    unfold code8 code32
    rw [e1, e2, mul_zero, e3, toInt_fptosi (by norm_num) (by norm_num), toInt_fptosi (by norm_num) (by norm_num)]
  | coe M =>
    have hM0 : 0 ≤ M := by exact_mod_cast hM
    rcases hM0.eq_or_lt with h0 | h0
    · rw [← h0]; simp
    rw [← EReal.coe_mul]
    set s : ℝ := M * (8623753 / 1073741824) with hsdef
    have hspos : 0 < s := mul_pos h0 hs
    obtain ⟨r, rfl⟩ : ∃ r : ℝ, x = (r : EReal) := by
      induction x using EReal.rec with
      | bot => exact absurd h (by unfold mag; simp)
      | top => exact absurd h (by unfold mag; simp)
      | coe r => exact ⟨r, rfl⟩
    have hr : |r| ≤ M := by
      have h1 : (r : EReal) ≤ M := (le_max_left _ _).trans h
      have h2 : (-(r : EReal)) ≤ M := (le_max_right _ _).trans h
      rw [← EReal.coe_neg] at h2
      exact abs_le.mpr ⟨by have := EReal.coe_le_coe_iff.mp h2; linarith, EReal.coe_le_coe_iff.mp h1⟩
    have hne : (s : EReal) ≠ 0 := by exact_mod_cast hspos.ne'
    have e1 : (r : EReal) * Ideal.div 1 (s : EReal) = ((r / s : ℝ) : EReal) := by
      unfold Ideal.div; rw [if_neg hne, one_mul, ← EReal.coe_inv, ← EReal.coe_mul, div_eq_mul_inv]
    have e2 : Ideal.div (r : EReal) (s : EReal) = ((r / s : ℝ) : EReal) := by
      unfold Ideal.div; rw [if_neg hne, ← EReal.coe_inv, ← EReal.coe_mul, div_eq_mul_inv]
    have hb : |r / s| ≤ 125 := by
      rw [abs_div, abs_of_pos hspos, div_le_iff₀ hspos, hsdef]
      refine hr.trans ?_
      nlinarith
    have hq := rhe_bounds hb
    unfold code8 code32
    rw [e1, e2]
    show (((Ideal.fptosi 8 (((Ideal.roundHalfEven (r / s) : ℤ) : ℝ) : EReal)).toInt : ℝ) : EReal) * _
      = (((Ideal.fptosi 32 (((Ideal.roundHalfEven (r / s) : ℤ) : ℝ) : EReal)).toInt : ℝ) : EReal) * _
    rw [toInt_fptosi (by norm_num) hq, toInt_fptosi (by norm_num) hq]

end Cert.Lookup
-- ==== Proof.Scale.lean ====
/-
  The value that the kernel leaves, over the extended reals: for each id the quantised row of the table that it names,
  scaled back with the scale of the row's half.
-/
module

public import proofs.«01_k».proof.Proof.OneHot
public import proofs.«01_k».proof.Proof.Quantiser
public import Idealize.ShloMosaic.PureOps.Reduce

@[expose] public section

noncomputable section

namespace Cert.Lookup

open Idealize.ShloMosaic Idealize.ShloMosaic.ValueIdx

/-- The largest magnitude of a family of values. -/
def top {ι : Type} (f : ι → EReal) : EReal := ⨆ i, mag (f i)

/-- Each entry's magnitude is at most the largest one. -/
theorem mag_le_top {ι : Type} (f : ι → EReal) (i : ι) : mag (f i) ≤ top f := le_iSup (fun i => mag (f i)) i

/-- The largest magnitude does not depend on how the entries are indexed. -/
theorem top_congr {ι κ : Type} (e : ι ≃ κ) (f : ι → EReal) (g : κ → EReal) (h : ∀ i, f i = g (e i)) : top f = top g := by
  unfold top
  rw [← e.iSup_comp]
  exact iSup_congr fun i => by rw [h]

/-- Both programs' maximum starts from the word of minus infinity. -/
theorem fold_maximum {ι : Type} (s : Finset ι) (f : ι → EReal) :
    s.fold (FloatOps.maximumf (F := Ideal) (φ := .f32)) (FloatOps.ofBits (F := Ideal) .f32 0xFF800000#32) f = ⨆ i ∈ s, f i := by
  rw [← Finset.sup_eq_iSup]
  have hb : FloatOps.ofBits (F := Ideal) .f32 0xFF800000#32 = (⊥ : EReal) := by
    show Ideal.ofBits .f32 0xFF800000#32 = ⊥
    unfold Ideal.ofBits Ideal.ieee
    have h1 : (BitVec.extractLsb' 23 8 0xFF800000#32).toNat = 255 := by decide
    have h2 : (BitVec.extractLsb' 0 23 0xFF800000#32).toNat = 0 := by decide
    have h3 : (BitVec.extractLsb' (8 + 23) 1 0xFF800000#32 == 1#1) = true := by decide
    simp only [h1, h2, h3]
    norm_num
  rw [hb]
  rfl

section Kernel

open Cert.KernelIdeal Cert.KernelIdeal.Gen

/-- The kernel's scale: the half's largest magnitude times the step. -/
theorem scale_eq (E : Vec Ideal S4096x512 .f32) : k0_pay1 (F := Ideal) E = top E * step := by
  have h : ∀ j, multiReduction (F := Ideal) .maximumf [1, 2] S1
      (shapeCast S1x4096x512 (absf (shapeCast S4096x512 E shapeCasts_S4096x512_S4096x512)) shapeCasts_S4096x512_S1x4096x512)
      0xFF800000#32 reduces_S1x4096x512_S1 (.inl rfl) rfl j = top E := fun j => by
    refine (multiReduction_maximumf_eq_fold _ _ _ _ _ j).trans ?_
    rw [fold_maximum, shapeCast_self]
    have hall : ∀ i, reduces_S1x4096x512_S1.drop i = j := fun i => funext fun a => by
      fin_cases a; exact Subsingleton.elim (α := Fin 1) _ _
    simp only [Finset.mem_filter, Finset.mem_univ, true_and, hall, iSup_pos]
    exact top_congr (Shape.reshapeEquiv shapeCasts_S4096x512_S1x4096x512) _ _ fun _ => rfl
  unfold k0_pay1
  dsimp only
  rw [funext h]
  rfl

/-- An entry of the quantised half table, over any float values. -/
theorem quant_at {F : FTy → Type} [FloatOps F] (E : Vec F S4096x512 .f32) (i : S4096x512.Idx) :
    k0_pay2 (F := F) E E i = FloatOps.fptosi 8 (FloatOps.roundeven (FloatOps.mulf (E i)
      (Scalar.divf (Scalar.ofBits .f32 0x3F800000#32) (k0_pay1 (F := F) E)))) := by
  unfold k0_pay2
  rw [shapeCast_self, shapeCast_self]
  generalize k0_pay1 (F := F) E = s
  rfl

/-- An entry of a chunk of the result, over any float values. -/
theorem out_at {F : FTy → Type} [FloatOps F] (s s' : F .f32) (a b : Vec F S128x512 .i8) (j : S128x512.Idx) :
    k0_pay11 s s' a b j
      = FloatOps.addf (FloatOps.mulf (FloatOps.sitofp .f32 (a j)) s) (FloatOps.mulf (FloatOps.sitofp .f32 (b j)) s') := rfl

/-- The literal one is the number one. -/
theorem word_one : (Scalar.ofBits .f32 0x3F800000#32 : Ideal .f32) = (1 : EReal) := by
  show Ideal.ofBits .f32 0x3F800000#32 = 1
  unfold Ideal.ofBits Ideal.ieee
  have h1 : (BitVec.extractLsb' 23 8 0x3F800000#32).toNat = 127 := by decide
  have h2 : (BitVec.extractLsb' 0 23 0x3F800000#32).toNat = 0 := by decide
  have h3 : (BitVec.extractLsb' (8 + 23) 1 0x3F800000#32 == 1#1) = false := by decide
  simp only [h1, h2, h3]
  norm_num

/-- Over the extended reals a conversion to a signed integer is the clamped one. -/
theorem fptosi_ideal (w : ℕ) (x : Ideal .f32) : FloatOps.fptosi (F := Ideal) w x = Ideal.fptosi w x := rfl
/-- Over the extended reals a signed word converts to the integer that it is. -/
theorem sitofp_ideal {w : ℕ} (x : BitVec w) : FloatOps.sitofp (F := Ideal) .f32 x = (((x.toInt : ℝ)) : EReal) := rfl

/-- The kernel's code of an entry of the half table. -/
theorem quant_eq (E : Vec Ideal S4096x512 .f32) (i : S4096x512.Idx) :
    k0_pay2 (F := Ideal) E E i = code8 (top E * step) (E i) := by
  rw [quant_at, word_one, scale_eq, Ideal.scalar_divf_def, Ideal.mulf_def, Ideal.roundeven_def, fptosi_ideal]
  exact (code8.eq_1 _ _).symm

/-- The value of an output entry: this device's byte times its scale plus the neighbour's byte times the neighbour's. -/
theorem out_eq (s s' : Ideal .f32) (a b : Vec Ideal S128x512 .i8) (j : S128x512.Idx) :
    k0_pay11 s s' a b j = (((a j).toInt : ℝ) : EReal) * s + (((b j).toInt : ℝ) : EReal) * s' := by
  rw [out_at, Ideal.addf_def, Ideal.mulf_def, Ideal.mulf_def, sitofp_ideal, sitofp_ideal]

end Kernel

end Cert.Lookup
-- ==== Proof.Value.lean ====
/-
  The result array of the kernel, over the extended reals, in terms of its two arguments.
-/
module

public import proofs.«01_k».proof.Proof.Scale
public import Idealize.ShloMosaic.Lib.Claim

@[expose] public section

noncomputable section

namespace Cert.Lookup

open Cert.KernelIdeal Cert.KernelIdeal.Gen
open Idealize.ShloMosaic Idealize.ShloMosaic.TcCoe Idealize.ShloMosaic.ValueIdx Idealize.SL.Sem

variable {F : FTy → Type} [FloatOps F]

/-- The half table that device `c` holds. -/
abbrev tableOf (m : (ℓ : Loc nD τ sig) → Buf (Elt F) ℓ) (c : Dev nD) : Vec F S4096x512 .f32 := m ((c.tc : Thread nD τ).loc main_arg1)
/-- The ids that device `c` holds. -/
abbrev wordsOf (m : (ℓ : Loc nD τ sig) → Buf (Elt F) ℓ) (c : Dev nD) : Vec F S512 .i32 := m ((c.tc : Thread nD τ).loc main_arg0)

/-- The table block that the body reads is the device's block of the argument. -/
theorem embAt_eq (m : (ℓ : Loc nD τ sig) → Buf (Elt F) ℓ) (c : Dev nD) : embAt m c = tableOf m c := by
  unfold embAt
  refine (Memref.read_access_unit_zero (Elt F) main_arg1 (funext fun a => by fin_cases a <;> rfl) _ _).trans ?_
  exact V_main_arg1 m c

/-- The column of ids that the body reads is the reshape of the argument. -/
theorem ids_cast (m : (ℓ : Loc nD τ sig) → Buf (Elt F) ℓ) (c : Dev nD) :
    V m c main_v1 = shapeCast S512x1 (wordsOf m c) shapeCasts_S512_S512x1 := by
  entry_read
  rfl

/-- Row `r` of the column of ids is the argument's id number `r`. -/
theorem idsAt_eq (m : (ℓ : Loc nD τ sig) → Buf (Elt F) ℓ) (c : Dev nD) (r : Fin 512) :
    idsAt m c (ix2 r 0) = wordsOf m c (ix1 r) := by
  have h : idsAt m c = shapeCast S512x1 (wordsOf m c) shapeCasts_S512_S512x1 := by
    unfold idsAt
    refine (Memref.read_access_unit_zero (Elt F) main_v1 (funext fun a => by fin_cases a <;> rfl) _ _).trans ?_
    exact ids_cast m c
  rw [h]
  refine shapeCast_apply _ _ _ _ ?_
  rw [Shape.rowMajor_val_one, Shape.rowMajor_val_two]
  show r.val = r.val * 1 + 0
  omega

/-- Device `c` holds half `c mod 2` of the table. -/
theorem half_eq (c : Dev nD) : half c = BitVec.ofNat 32 (c.val % 2) := by
  revert c; decide

/-- A device and its neighbour lie at the two different positions along z. -/
theorem peer_val (c : Dev nD) : (peer c).val % 2 = 1 - c.val % 2 := by
  revert c; decide

/-- The result, where the id's row is `n`: the row of the half that has it, quantised and scaled back. -/
theorem outAt_eq (m : (ℓ : Loc nD τ sig) → Buf (Elt Ideal) ℓ) (c : Dev nD) (r : Fin 512) (l : Fin 512) (n : ℕ) (hn : n < 8192)
    (hid : ∀ c, wordsOf m c (ix1 r) = BitVec.ofNat 32 n) :
    outAt m c (ix2 r l) = back (top (tableOf m (if n / 4096 = c.val % 2 then c else peer c)) * step)
      (tableOf m (if n / 4096 = c.val % 2 then c else peer c) (ix2 ⟨n % 4096, Nat.mod_lt _ (by decide)⟩ l)) := by
  have hs : ∀ c : Dev nD, scaleOf m c = top (tableOf m c) * step := fun c => by
    unfold scaleOf; rw [embAt_eq, scale_eq]
  have hq : ∀ (c : Dev nD) i, quantAt m c i = code8 (top (tableOf m c) * step) (tableOf m c i) := fun c i => by
    unfold quantAt; rw [embAt_eq, quant_eq]
  have hr := r.isLt
  have hrow : ∀ c : Dev nD, sendV m c ⟨r.val / 128, by omega⟩ (ix2 ⟨r.val % 128, Nat.mod_lt _ (by decide)⟩ l)
      = if n / 4096 = c.val % 2 then code8 (top (tableOf m c) * step) (tableOf m c (ix2 ⟨n % 4096, Nat.mod_lt _ (by decide)⟩ l)) else 0#8 :=
    fun c => by
      unfold sendV
      rw [chunk_at (half c) _ _ _ _ (c.val % 2) n (Nat.mod_lt _ (by decide)) (half_eq c) hn ?_, hq]
      have he : (idrows ⟨r.val / 128, by omega⟩).emb (ix2 ⟨r.val % 128, Nat.mod_lt _ (by decide)⟩ 0) = (ix2 r 0 : S512x1.Idx) := by
        funext a
        fin_cases a
        · apply Fin.ext
          show 128 * (r.val / 128) + 1 * (r.val % 128) = r.val
          omega
        · rfl
      exact (congrArg (idsAt m c) he).trans ((idsAt_eq m c r).trans (hid c))
  have hg : outAt m c (ix2 r l) = outV m c ⟨r.val / 128, by omega⟩ (ix2 ⟨r.val % 128, Nat.mod_lt _ (by decide)⟩ l) := by
    unfold outAt glue
    refine congrArg (outV m c ⟨r.val / 128, by omega⟩) (funext fun a => ?_)
    fin_cases a <;> rfl
  rw [hg]
  unfold outV
  rw [out_eq, hrow, hrow, hs, hs, peer_val]
  have hb : n / 4096 < 2 := by omega
  have hc : c.val % 2 < 2 := Nat.mod_lt _ (by decide)
  have hz : (((0#8 : BitVec 8).toInt : ℝ) : EReal) = 0 := by simp
  by_cases h : n / 4096 = c.val % 2
  · rw [if_pos h, if_neg (show ¬ n / 4096 = 1 - c.val % 2 by omega), hz, zero_mul, add_zero]
    simp only [if_pos h]
    exact (back.eq_1 _ _).symm
  · rw [if_neg h, if_pos (show n / 4096 = 1 - c.val % 2 by omega), hz, zero_mul, zero_add]
    simp only [if_neg h]
    exact (back.eq_1 _ _).symm

end Cert.Lookup
-- ==== Proof.RefValue.lean ====
/-
  The value of the reference, over the extended reals: for each id the row of the quantised table, scaled back.
-/
module

public import proofs.«01_k».proof.Proof.Scale
public import proofs.«01_k».proof.Proof.Gen.ReferenceIdeal.Run
public import Idealize.ShloMosaic.Lib.Routing.Ops
public import Idealize.ShloMosaic.Lib.Pointwise

@[expose] public section

noncomputable section

namespace Cert.Lookup

open Cert.ReferenceIdeal Cert.ReferenceIdeal.Gen
open Idealize.ShloMosaic hiding ix1 ix2 ix3 eq_ix3
open Idealize.ShloMosaic.ValueIdx

section Terms
variable {F : FTy → Type} [FloatOps F]

/-- The table as two halves. -/
def refHalves (E : FVec F S8192x512 .f32) : FVec F S2x4096x512 .f32 := shapeCast _ E shapeCasts_S8192x512_S2x4096x512
/-- Each half's largest magnitude. -/
def refTop (E : FVec F S8192x512 .f32) : FVec F S2 .f32 :=
  Host.reduce FloatOps.maximumf (Host.absf (refHalves E)) (constant S_ .f32 0xFF800000#32) reducesTo_S2x4096x512_S2_d1_2 h_S_
/-- Each half's scale. -/
def refScale (E : FVec F S8192x512 .f32) : FVec F S2x1x1 .f32 :=
  mulf (broadcastInDim S2x1x1 ![0] bcast_S2_S2x1x1_0 (refTop E)) (broadcastInDim S2x1x1 ![] bcast_S_S2x1x1 (constant S_ .f32 0x3C039689#32))
/-- The scales, spread over the halves. -/
def refSpread (E : FVec F S8192x512 .f32) : FVec F S2x4096x512 .f32 :=
  broadcastInDim S2x4096x512 ![0, 1, 2] bcast_S2x1x1_S2x4096x512_0_1_2 (refScale E)
/-- The quantised table, scaled back. -/
def refTable (E : FVec F S8192x512 .f32) : FVec F S8192x512 .f32 :=
  shapeCast _ (mulf (sitofp .f32 (fptosi 32 (Host.roundeven (Host.divf (refHalves E) (refSpread E))))) (refSpread E))
    shapeCasts_S2x4096x512_S8192x512
/-- The row numbers: a negative id counts from the end. -/
def refRows (w : IVec S512 32) : IVec S512x1 32 :=
  broadcastInDim S512x1 ![0] bcast_S512_S512x1_0 (select (cmpi .slt w (broadcastInDim S512 ![] bcast_S_S512 (constantI S_ 32 0#32)))
    (addi w (broadcastInDim S512 ![] bcast_S_S512 (constantI S_ 32 8192#32))) w)
/-- The reference's result. -/
def refOut (E : FVec F S8192x512 .f32) (w : IVec S512 32) : FVec F S512x512 .f32 :=
  Host.gather gather_S8192x512_S512x1_S512x512_1_0_n_n_0_1_1512 (refTable E) (refRows w)

/-- The half's rows, read from the table. -/
theorem halves_at (E : FVec F S8192x512 .f32) (h : Fin 2) (a : Fin 4096) (l : Fin 512) (p : Fin 8192) (hp : p.val = h.val * 4096 + a.val) :
    refHalves E (ix3 h a l) = E (ix2 p l) := by
  unfold refHalves
  refine shapeCast_apply _ _ _ _ ?_
  rw [Shape.rowMajor_val_two, Shape.rowMajor_val_three]
  show p.val * 512 + l.val = (h.val * 4096 + a.val) * 512 + l.val
  rw [hp]

/-- The scale of half `h` is the same at all of its entries. -/
theorem spread_at (E : FVec F S8192x512 .f32) (h : Fin 2) (a : Fin 4096) (l : Fin 512) :
    refSpread E (ix3 h a l) = FloatOps.mulf (refTop E (ix1 h)) (FloatOps.ofBits .f32 0x3C039689#32) := by
  unfold refSpread
  refine (broadcastInDim_apply _ _ _ _ (ix3 h 0 0) fun a => by fin_cases a <;> rfl).trans ?_
  unfold refScale
  refine congrArg₂ FloatOps.mulf ?_ ?_
  · refine broadcastInDim_apply _ _ _ _ (ix1 h) fun a => by fin_cases a <;> rfl
  · rfl

/-- The reference's quantised table at row `p` is the quantised half of that row, times its scale. -/
theorem table_at (E : FVec F S8192x512 .f32) (h : Fin 2) (a : Fin 4096) (l : Fin 512) (p : Fin 8192) (hp : p.val = h.val * 4096 + a.val) :
    refTable E (ix2 p l) = FloatOps.mulf (FloatOps.sitofp .f32 (FloatOps.fptosi 32 (FloatOps.hostUnary .roundeven
      (FloatOps.hostDivf (E (ix2 p l)) (refSpread E (ix3 h a l)))))) (refSpread E (ix3 h a l)) := by
  rw [← halves_at E h a l p hp]
  unfold refTable
  refine (shapeCast_apply _ shapeCasts_S2x4096x512_S8192x512 (ix2 p l) (ix3 h a l) ?_).trans rfl
  rw [Shape.rowMajor_val_two, Shape.rowMajor_val_three]
  show (h.val * 4096 + a.val) * 512 + l.val = p.val * 512 + l.val
  rw [hp]

/-- An id that is not negative is its own row number. -/
theorem rows_at (w : IVec S512 32) (r : Fin 512) (n : ℕ) (hn : n < 8192) (hw : w (ix1 r) = BitVec.ofNat 32 n) :
    refRows w (ix2 r 0) = BitVec.ofNat 32 n := by
  unfold refRows
  refine (broadcastInDim_apply _ _ _ _ (ix1 r) fun a => by fin_cases a; rfl).trans ?_
  rw [select_apply]
  have hc : cmpi .slt w (broadcastInDim S512 ![] bcast_S_S512 (constantI S_ 32 0#32)) (ix1 r) = 0#1 := by
    show BitVec.ofBool (BitVec.slt (w (ix1 r)) 0#32) = 0#1
    rw [hw]
    have : BitVec.slt (BitVec.ofNat 32 n) 0#32 = false := by
      rw [BitVec.slt_eq_decide, decide_eq_false_iff_not, BitVec.toInt_eq_toNat_cond, BitVec.toNat_ofNat]
      simp
      omega
    rw [this]; rfl
  rw [hc, select_zero, hw]

end Terms

/-- One half of the table. -/
def halfOf (E : FVec Ideal S8192x512 .f32) (h : Fin 2) : (⟨2, ![4096, 512]⟩ : Shape).Idx → EReal :=
  fun i => E (ix2 ⟨h.val * 4096 + (i 0).val, by have : (i 0).val < 4096 := (i 0).isLt; omega⟩ (i 1))

/-- The reference's maximum over half `h` is the largest magnitude of that half. -/
theorem top_eq (E : FVec Ideal S8192x512 .f32) (h : Fin 2) : refTop E (ix1 h) = top (halfOf E h) := by
  unfold refTop
  refine (Host.reduce_eq_fold _ _ _ _ _ _).trans ?_
  refine (fold_maximum _ _).trans ?_
  have hd : ∀ i : S2x4096x512.Idx, reducesTo_S2x4096x512_S2_d1_2.drop i = ix1 h ↔ i 0 = h := fun i => by
    have h0 : (reducesTo_S2x4096x512_S2_d1_2.drop i 0).val = (i 0).val := Shape.ReducesTo.drop_apply_val_of_eq _ i 0 0
    constructor
    · intro e
      rw [e] at h0
      exact Fin.ext h0.symm
    · intro e
      funext a
      fin_cases a
      exact Fin.ext (h0.trans (congrArg Fin.val e))
  simp only [Finset.mem_filter, Finset.mem_univ, true_and, hd]
  apply le_antisymm
  · refine iSup_le fun i => iSup_le fun hi => ?_
    have e : i = ix3 (h : Fin 2) (i 1) (i 2) := by rw [← hi]; exact eq_ix3 i
    rw [e]
    refine le_trans (le_of_eq ?_) (mag_le_top (halfOf E h) (ix2 (i 1) (i 2)))
    exact congrArg mag (halves_at E h (i 1) (i 2) ⟨h.val * 4096 + (i 1).val, by have := h.isLt; have : (i 1).val < 4096 := (i 1).isLt; omega⟩ rfl)
  · refine iSup_le fun k => ?_
    refine le_trans (le_of_eq ?_) (le_iSup_of_le (ix3 h (k 0) (k 1)) (le_iSup_of_le rfl le_rfl))
    exact (congrArg mag (halves_at E h (k 0) (k 1) ⟨h.val * 4096 + (k 0).val, by have := h.isLt; have : (k 0).val < 4096 := (k 0).isLt; omega⟩ rfl)).symm

/-- The reference's result where the id's row is `n`. -/
theorem refOut_eq (E : FVec Ideal S8192x512 .f32) (w : IVec S512 32) (r : Fin 512) (l : Fin 512) (n : ℕ) (hn : n < 8192)
    (hw : w (ix1 r) = BitVec.ofNat 32 n) :
    refOut E w (ix2 r l) = (((code32 (top (halfOf E ⟨n / 4096, by omega⟩) * step) (E (ix2 ⟨n, hn⟩ l))).toInt : ℝ) : EReal)
      * (top (halfOf E ⟨n / 4096, by omega⟩) * step) := by
  unfold refOut
  rw [Routing.gather_row gather_S8192x512_S512x1_S512x512_1_0_n_n_0_1_1512 rfl rfl rfl rfl rfl (refTable E) (refRows w) r l ⟨n, hn⟩
    (rows_at w r n hn hw) (by decide)]
  rw [table_at E ⟨n / 4096, by omega⟩ ⟨n % 4096, Nat.mod_lt _ (by decide)⟩ l ⟨n, hn⟩ (by show n = n / 4096 * 4096 + n % 4096; omega)]
  rw [spread_at, top_eq, Ideal.mulf_def, Ideal.mulf_def, sitofp_ideal, fptosi_ideal, Ideal.hostUnary_roundeven_def, Ideal.hostDivf_def]
  rw [show FloatOps.ofBits (F := Ideal) .f32 0x3C039689#32 = step from step.eq_1.symm]
  rw [code32.eq_1]

end Cert.Lookup
-- ==== Proof.Equation.lean ====
/-
  The kernel's result and the reference's are one array, where the ids are in range and the devices hold the reference's
  table by halves.
-/
module

public import proofs.«01_k».proof.Proof.Value
public import proofs.«01_k».proof.Proof.RefValue
public import proofs.«01_k».proof.Proof.Gen.Pre_ids_in_range_KernelIdeal
public import Idealize.ShloMosaic.Lib.Layout

@[expose] public section

noncomputable section

namespace Cert.Lookup

open Idealize.ShloMosaic hiding ix0 ix1 ix2 ix3 eq_ix2 eq_ix3
open Idealize.ShloMosaic.ValueIdx

/-- A conjunction of bits is one exactly where every bit is. -/
theorem fold_and {ι : Type} [DecidableEq ι] (s : Finset ι) (f : ι → BitVec 1) (h : s.fold IntOp.andi 1#1 f = 1#1) : ∀ i ∈ s, f i = 1#1 := by
  induction s using Finset.induction_on with
  | empty => intro i hi; exact absurd hi (Finset.notMem_empty i)
  | insert a s ha ih =>
    rw [Finset.fold_insert ha] at h
    have key : ∀ x y : BitVec 1, IntOp.andi x y = 1#1 → x = 1#1 ∧ y = 1#1 := by decide
    obtain ⟨h1, h2⟩ := key _ _ h
    intro i hi
    rcases Finset.mem_insert.mp hi with rfl | hi
    · exact h1
    · exact ih h2 i hi

/-- What the precondition says of each id. -/
theorem ids_bounded (w : IVec Cert.Pre_ids_in_range_KernelIdeal.S512 32) (E : FVec Ideal Cert.Pre_ids_in_range_KernelIdeal.S4096x512 .f32)
    (h : Cert.Pre_ids_in_range_KernelIdeal.fn (F := Ideal) w E = fun _ => 1#1) (r : Fin 512) :
    ∃ n, n < 8192 ∧ w (ix1 r) = BitVec.ofNat 32 n := by
  have hf := congrFun h ix0
  unfold Cert.Pre_ids_in_range_KernelIdeal.fn at hf
  dsimp only at hf
  rw [Host.reduce_eq_fold] at hf
  have hr := fold_and _ _ hf (ix1 r) (Finset.mem_filter.mpr ⟨Finset.mem_univ _, funext fun a => a.elim0⟩)
  have hb : IntOp.andi (BitVec.ofBool (BitVec.sle 0#32 (w (ix1 r)))) (BitVec.ofBool (BitVec.slt (w (ix1 r)) 8192#32)) = 1#1 := hr
  have key : ∀ p q : Bool, IntOp.andi (BitVec.ofBool p) (BitVec.ofBool q) = 1#1 → p = true ∧ q = true := by decide
  obtain ⟨h1, h2⟩ := key _ _ hb
  rw [BitVec.sle_eq_decide, decide_eq_true_eq] at h1
  rw [BitVec.slt_eq_decide, decide_eq_true_eq] at h2
  have e0 : (0#32 : BitVec 32).toInt = 0 := rfl
  have e1 : (8192#32 : BitVec 32).toInt = 8192 := rfl
  rw [e0] at h1
  rw [e1] at h2
  refine ⟨(w (ix1 r)).toInt.toNat, by omega, ?_⟩
  apply BitVec.eq_of_toInt_eq
  rw [BitVec.toInt_ofNat', Int.toNat_of_nonneg h1]
  exact (BitVec.toInt_bmod_cancel _).symm

open Cert.KernelIdeal Cert.KernelIdeal.Gen Idealize.ShloMosaic.TcCoe Idealize.SL.Sem

/-- The block that device `c` holds of the table. -/
abbrev cutOf (c : Dev nD) := Layout.meshBlock (r := 2) [2, 2, 2] ![[2], []] c

/-- A device's half table is the reference's half. -/
theorem table_half (E : (⟨2, ![8192, 512]⟩ : Shape).Idx → EReal) (c : Dev nD) :
    Layout.blockN ⟨2, ![4096, 512]⟩ ⟨2, ![8192, 512]⟩ (Layout.meshBlock [2, 2, 2] ![[2], []] c) E
      = halfOf E ⟨c.val % 2, Nat.mod_lt _ (by decide)⟩ := by
  have h0 : (cutOf c 0).val = c.val % 2 := by revert c; decide
  have h1 : (cutOf c 1).val = 0 := by revert c; decide
  funext i
  rw [Layout.blockN_apply]
  unfold halfOf
  refine congrArg E (funext fun a => Fin.ext ?_)
  fin_cases a
  · show (cutOf c 0).val * 4096 + (i 0).val = _
    rw [h0]
  · show (cutOf c 1).val * 512 + (i 1).val = _
    rw [h1]
    show 0 * 512 + (i 1).val = (i 1).val
    omega

/-- On every device the kernel's result is the reference's. -/
theorem results_agree (m : (ℓ : Loc nD τ sig) → Buf (Elt Ideal) ℓ) (E : FVec Ideal Cert.ReferenceIdeal.S8192x512 .f32)
    (w : IVec Cert.ReferenceIdeal.S512 32)
    (hpre : ∀ c : Dev nD, Cert.Pre_ids_in_range_KernelIdeal.fn (F := Ideal) (wordsOf m c) (tableOf m c) = fun _ => 1#1)
    (hw : ∀ c : Dev nD, wordsOf m c = w)
    (hE : ∀ c : Dev nD, tableOf m c = Layout.blockN ⟨2, ![4096, 512]⟩ ⟨2, ![8192, 512]⟩ (Layout.meshBlock [2, 2, 2] ![[2], []] c) E)
    (c : Dev nD) : outAt m c = refOut E w := by
  funext i
  have hi : i = ix2 (i 0 : Fin 512) (i 1 : Fin 512) := eq_ix2 i
  rw [hi]
  generalize (i 0 : Fin 512) = r
  generalize (i 1 : Fin 512) = l
  obtain ⟨n, hn, hid⟩ := ids_bounded _ _ (hpre c) r
  have hwn : w (ix1 r) = BitVec.ofNat 32 n := by rw [← hw c]; exact hid
  refine (outAt_eq m c r l n hn fun c' => by rw [hw c']; exact hwn).trans ((refOut_eq E w r l n hn hwn).trans ?_).symm
  have hn2 : n / 4096 < 2 := by omega
  have hc : (if n / 4096 = c.val % 2 then c else peer c).val % 2 = n / 4096 := by
    have := Nat.mod_lt c.val (show 0 < 2 by decide)
    split
    · omega
    · rw [peer_val]; omega
  generalize (if n / 4096 = c.val % 2 then c else peer c) = c' at hc ⊢
  have ht : tableOf m c' = halfOf E ⟨n / 4096, hn2⟩ := by
    rw [hE, table_half]
    exact congrArg (halfOf E) (Fin.ext hc)
  have hx : tableOf m c' (ix2 ⟨n % 4096, Nat.mod_lt _ (by decide)⟩ l) = E (ix2 ⟨n, hn⟩ l) := by
    rw [ht]
    refine congrArg E (funext fun a => ?_)
    fin_cases a
    · apply Fin.ext
      show n / 4096 * 4096 + n % 4096 = n
      omega
    · rfl
  have hm := mag_le_top (tableOf m c') (ix2 ⟨n % 4096, Nat.mod_lt _ (by decide)⟩ l)
  have hcode := codes_agree _ _ hm
  rw [hx] at hcode ⊢
  rw [hcode, ht]

end Cert.Lookup
-- ==== Proof.Bound.lean ====
/-
  How far the quantised rows lie from the table's own: at most half a step of the largest magnitude.
-/
module

public import proofs.«01_k».proof.Proof.RefValue
public import proofs.«01_k».proof.Proof.Gen.Post_close_to_table

@[expose] public section

noncomputable section

namespace Cert.Lookup

open Idealize.ShloMosaic hiding ix0 ix1 ix2 ix3 eq_ix2 eq_ix3
open Idealize.ShloMosaic.ValueIdx

/-- The constant `0.51 / 127`, as the float word of the bound. -/
def halfStep : EReal := Ideal.ofBits .f32 0x3B839689#32

/-- The bound's literal, as the rational that its word is: half of the scale's. -/
theorem halfStep_eq : halfStep = ((8623753 / 2147483648 : ℝ) : EReal) := by
  unfold halfStep Ideal.ofBits Ideal.ieee
  have h1 : (BitVec.extractLsb' 23 8 0x3B839689#32).toNat = 119 := by decide
  have h2 : (BitVec.extractLsb' 0 23 0x3B839689#32).toNat = 235145 := by decide
  have h3 : (BitVec.extractLsb' (8 + 23) 1 0x3B839689#32 == 1#1) = false := by decide
  simp only [h1, h2, h3]
  norm_num

/-- Rounding moves a real number by at most a half. -/
theorem rhe_near (y : ℝ) : |(Ideal.roundHalfEven y : ℝ) - y| ≤ 1 / 2 := by
  have hl := Int.floor_le y
  have hu := Int.lt_floor_add_one y
  unfold Ideal.roundHalfEven
  dsimp only
  rw [abs_le]
  split_ifs <;> push_cast <;> constructor <;> linarith

/-- A code scaled back lies within half a step of the value, if the scale comes from a bound `M` on the magnitude. -/
theorem code_near (x M : EReal) (h : mag x ≤ M) :
    mag ((((code32 (M * step) x).toInt : ℝ) : EReal) * (M * step) - x) ≤ M * halfStep := by
  have hM : 0 ≤ M := (mag_nonneg x).trans h
  have hs : (0 : ℝ) < 8623753 / 1073741824 := by norm_num
  rw [step_eq, halfStep_eq]
  induction M using EReal.rec with
  | bot => exact absurd hM (by simp)
  | top =>
    rw [EReal.top_mul_coe_of_pos (show (0 : ℝ) < 8623753 / 2147483648 by norm_num)]
    exact le_top
  | coe M =>
    obtain ⟨r, rfl⟩ : ∃ r : ℝ, x = (r : EReal) := by
      induction x using EReal.rec with
      | bot => exact absurd h (by unfold mag; simp)
      | top => exact absurd h (by unfold mag; simp)
      | coe r => exact ⟨r, rfl⟩
    have hr : |r| ≤ M := by
      have h1 : (r : EReal) ≤ M := (le_max_left _ _).trans h
      have h2 : (-(r : EReal)) ≤ M := (le_max_right _ _).trans h
      rw [← EReal.coe_neg] at h2
      exact abs_le.mpr ⟨by have := EReal.coe_le_coe_iff.mp h2; linarith, EReal.coe_le_coe_iff.mp h1⟩
    rw [← EReal.coe_mul, ← EReal.coe_mul, ← EReal.coe_mul, ← EReal.coe_sub]
    set s : ℝ := M * (8623753 / 1073741824) with hsdef
    have hlast : ∀ z : ℝ, |z - r| ≤ M * (8623753 / 2147483648) →
        mag ((z - r : ℝ) : EReal) ≤ ((M * (8623753 / 2147483648) : ℝ) : EReal) := fun z hz => by
      obtain ⟨h1, h2⟩ := abs_le.mp hz
      unfold mag
      rw [← EReal.coe_neg]
      exact max_le (EReal.coe_le_coe_iff.mpr h2) (EReal.coe_le_coe_iff.mpr (by linarith))
    refine hlast _ ?_
    have hM0 : 0 ≤ M := by exact_mod_cast hM
    rcases hM0.eq_or_lt with h0 | h0
    · have hr0 : r = 0 := abs_eq_zero.mp (le_antisymm (by rw [h0]; exact hr) (abs_nonneg r))
      rw [hsdef, ← h0, hr0]
      simp
    have hspos : 0 < s := mul_pos h0 hs
    have hne : (s : EReal) ≠ 0 := by exact_mod_cast hspos.ne'
    have e2 : Ideal.div (r : EReal) (s : EReal) = ((r / s : ℝ) : EReal) := by
      unfold Ideal.div; rw [if_neg hne, ← EReal.coe_inv, ← EReal.coe_mul, div_eq_mul_inv]
    have hb : |r / s| ≤ 125 := by
      rw [abs_div, abs_of_pos hspos, div_le_iff₀ hspos, hsdef]
      refine hr.trans ?_
      nlinarith
    have hcode : (code32 (s : EReal) (r : EReal)).toInt = Ideal.roundHalfEven (r / s) := by
      unfold code32
      rw [e2]
      show (Ideal.fptosi 32 (((Ideal.roundHalfEven (r / s) : ℤ) : ℝ) : EReal)).toInt = _
      exact toInt_fptosi (by norm_num) (rhe_bounds hb)
    rw [hcode]
    have hfac : (Ideal.roundHalfEven (r / s) : ℝ) * s - r = ((Ideal.roundHalfEven (r / s) : ℝ) - r / s) * s := by
      rw [sub_mul, div_mul_cancel₀ _ hspos.ne']
    rw [hfac, abs_mul, abs_of_pos hspos]
    refine (mul_le_mul_of_nonneg_right (rhe_near _) hspos.le).trans (le_of_eq ?_)
    rw [hsdef]
    ring

open Cert.ReferenceIdeal Cert.ReferenceIdeal.Gen

/-- The largest magnitude of a half is at most that of the whole table. -/
theorem half_top_le (E : FVec Ideal S8192x512 .f32) (h : Fin 2) : top (halfOf E h) ≤ top E :=
  iSup_le fun i => mag_le_top E _

/-- An entry of the quantised table lies within half a step of the table's own entry. -/
theorem table_near (E : FVec Ideal S8192x512 .f32) (n : Fin 8192) (l : Fin 512) :
    mag (refTable E (ix2 n l) - E (ix2 n l)) ≤ top E * halfStep := by
  have hn := n.isLt
  have hq : n.val / 4096 < 2 := by omega
  rw [table_at E ⟨n.val / 4096, hq⟩ ⟨n.val % 4096, Nat.mod_lt _ (by decide)⟩ l n (by show n.val = n.val / 4096 * 4096 + n.val % 4096; omega)]
  rw [spread_at, top_eq, Ideal.mulf_def, Ideal.mulf_def, sitofp_ideal, fptosi_ideal, Ideal.hostUnary_roundeven_def, Ideal.hostDivf_def]
  rw [show FloatOps.ofBits (F := Ideal) .f32 0x3C039689#32 = step from step.eq_1.symm]
  rw [← code32.eq_1]
  have hx : E (ix2 n l) = halfOf E ⟨n.val / 4096, hq⟩ (ix2 ⟨n.val % 4096, Nat.mod_lt _ (by decide)⟩ l) := by
    refine congrArg E (funext fun a => ?_)
    fin_cases a
    · apply Fin.ext
      show n.val = n.val / 4096 * 4096 + n.val % 4096
      omega
    · rfl
  refine (code_near _ _ ?_).trans ?_
  · rw [hx]; exact mag_le_top _ _
  · refine mul_le_mul_of_nonneg_right (half_top_le E _) ?_
    rw [halfStep_eq]
    exact_mod_cast (by norm_num : (0 : ℝ) ≤ 8623753 / 2147483648)

section Terms
variable {F : FTy → Type} [FloatOps F]

/-- The bound's largest magnitude, over any float values. -/
def postTop (E : FVec F S8192x512 .f32) : FVec F S_ .f32 :=
  Host.reduce FloatOps.maximumf (Host.absf E) (constant S_ .f32 0xFF800000#32) Cert.Post_close_to_table.Facts.reducesTo_S8192x512_S_d0_1
    Cert.Post_close_to_table.Facts.h_S_

/-- An entry of the postcondition, of the reference's result: one comparison at one place of the table. -/
theorem post_at (w : IVec S512 32) (E : FVec F S8192x512 .f32) (j : S512x512.Idx) : ∃ p : S8192x512.Idx,
    Cert.Post_close_to_table.fn w E (refOut E w) j
      = FloatOps.cmpf .ole (FloatOps.hostAbsf (FloatOps.subf (refTable E p) (E p)))
          (FloatOps.mulf (postTop E ix0) (FloatOps.ofBits .f32 0x3B839689#32)) := by
  refine ⟨gather_S8192x512_S512x1_S512x512_1_0_n_n_0_1_1512.operandIdx j (refRows w), ?_⟩
  unfold Cert.Post_close_to_table.fn
  dsimp only
  refine congrArg₂ (FloatOps.cmpf .ole) rfl ?_
  exact broadcastInDim_apply _ _ _ _ ix0 fun a => a.elim0

end Terms

/-- Over the extended reals it is the table's largest magnitude. -/
theorem postTop_eq (E : FVec Ideal S8192x512 .f32) : postTop E ix0 = top E := by
  unfold postTop
  refine (Host.reduce_eq_fold _ _ _ _ _ _).trans ?_
  refine (fold_maximum _ _).trans ?_
  have hd : ∀ i : S8192x512.Idx, Cert.Post_close_to_table.Facts.reducesTo_S8192x512_S_d0_1.drop i = ix0 := fun i => funext fun a => a.elim0
  simp only [Finset.mem_filter, Finset.mem_univ, true_and, hd, iSup_pos]
  rfl

/-- A comparison of a magnitude with its bound is true where the magnitude is at most the bound. -/
theorem cmp_true (x y : Ideal .f32) (h : mag x ≤ y) : FloatOps.cmpf .ole (FloatOps.hostAbsf x) y = 1#1 := by
  show BitVec.ofBool (decide (mag x ≤ y)) = 1#1
  rw [decide_eq_true h]
  rfl

/-- The postcondition holds of the reference's result, of any ids and any table. -/
theorem rows_near (w : IVec S512 32) (E : FVec Ideal S8192x512 .f32) :
    Cert.Post_close_to_table.fn (F := Ideal) w E (refOut E w) = fun _ => 1#1 := by
  funext j
  obtain ⟨p, hp⟩ := post_at (F := Ideal) w E j
  rw [hp, postTop_eq, Ideal.mulf_def, Ideal.subf_def]
  have hb : mag (refTable E p - E p) ≤ top E * halfStep := by
    rw [show p = ix2 (p 0 : Fin 8192) (p 1 : Fin 512) from eq_ix2 p]
    exact table_near E (p 0) (p 1)
  exact cmp_true _ _ hb

end Cert.Lookup
-- ==== Proof.lean ====
module

public import proofs.«01_k».proof.Defs
public import proofs.«01_k».proof.Proof.Launch
public import proofs.«01_k».proof.Proof.Equation
public import proofs.«01_k».proof.Proof.Bound
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_range_KernelIdeal
public import proofs.«01_k».proof.Proof.Gen.Pre_ids_in_range_ReferenceIdeal
public import Idealize.ShloMosaic.Adequacy
public import Idealize.ShloMosaic.Init

@[expose] public section

noncomputable section

namespace Cert.Proof

open Idealize.ShloMosaic Idealize.SL.Sem Cert.Kernel

/-- The two prints of the kernel have one table of bodies. -/
theorem bodies_same : Cert.Kernel.defs (F := Bits) = Cert.KernelIdeal.defs (F := Bits) := by
  refine congrArg (Pipeline.defs _) ?_
  unfold Cert.Kernel.defs₀ Cert.KernelIdeal.defs₀
  refine congrArg Defs.onTc (funext fun l => funext fun a => ?_)
  match l, a with
  | ⟨0, _⟩, (t, s) => rfl

/-- The kernel's program, over words: it ends, its arguments unchanged and every semaphore at zero. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run _ _ _).mono (fun _ h => ⟨fun c => (h.1 c).2, h.2⟩) (Cert.Lookup.run_main (F := Bits) m ρ)
  rw [← bodies_same] at h
  exact h

/-- The same over the extended reals. -/
theorem frame_ideal : Cert.quiescent_KernelIdeal := fun m ρ _ =>
  (θ_run Cert.KernelIdeal.defs _ _).mono (fun _ h => ⟨fun c => (h.1 c).2, h.2⟩) (Cert.Lookup.run_main (F := Ideal) m ρ)

/-- The reference's program: host operations alone, which touch no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On every device the kernel ends with the reference's result. -/
theorem values : Cert.algebraic_KernelIdeal_ReferenceIdeal_pre_ids_in_range_KernelIdeal := fun m g m' g' hpre hagree => by
  refine ⟨Cert.Lookup.refOut (F := Ideal) (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c).1.trans (Cert.Lookup.results_agree m _ _ hpre (fun c => (hagree c).1) (fun c => (hagree c).2) c), (h.1 c).2⟩)
      (Cert.Lookup.run_main (F := Ideal) m g)
  · exact (θ_run Cert.ReferenceIdeal.defs _ _).mono (fun _ h => h 0) (Cert.ReferenceIdeal.Value.run (F := Ideal) m' g')

/-- The reference's rows lie within half a step of the table's own rows. -/
theorem near : Cert.holds_ReferenceIdeal_close_to_table := fun m g _ =>
  (θ_run Cert.ReferenceIdeal.defs _ _).mono
    (fun r h c => ⟨(h c).2.1, (h c).2.2, (congrArg (Cert.Post_close_to_table.fn (F := Ideal) _ _) (h c).1).trans (Cert.Lookup.rows_near _ _)⟩)
    (Cert.ReferenceIdeal.Value.run (F := Ideal) m g)

/-- The six claims together, with the facts about the printed programs that they rest on. -/
theorem claim : Cert.Claim := ⟨Cert.Kernel.Gen.facts, Cert.KernelIdeal.Gen.facts, Cert.ReferenceIdeal.Gen.facts, Cert.Pre_ids_in_range_KernelIdeal.Gen.facts, Cert.Pre_ids_in_range_ReferenceIdeal.Gen.facts, Cert.Post_close_to_table.Gen.facts,
  frame_kernel, frame_ideal, fun m ρ _ => frame_ideal m ρ trivial, frame_reference, fun m ρ _ => frame_reference m ρ trivial, trivial, values, near⟩

end Cert.Proof

end
